-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S512x4096 : Shape := ⟨2, ![512, 4096]⟩
abbrev S8x3x512x512 : Shape := ⟨4, ![8, 3, 512, 512]⟩
abbrev S8x3 : Shape := ⟨2, ![8, 3]⟩
abbrev S8 : Shape := ⟨1, ![8]⟩
abbrev S_ : Shape := ⟨0, ![]⟩
abbrev S512x512 : Shape := ⟨2, ![512, 512]⟩
abbrev S1x1x512x512 : Shape := ⟨4, ![1, 1, 512, 512]⟩
abbrev S1x1 : Shape := ⟨2, ![1, 1]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S512x4096, .f32⟩
  | .local _ .vmem, ⟨0, _⟩ => ⟨S8192x512, .f32⟩
  | .local _ .vmem, ⟨1, _⟩ => ⟨S512x4096, .f32⟩
  | .local _ .vmem, ⟨2, _⟩ => ⟨S512x4096, .f32⟩
  | .local _ .vmem, ⟨3, _⟩ => ⟨S8x3x512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 9 51 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 8

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c512_i32 : BitVec 32 := 512#32
  let v13 : BitVec 32 := Scalar.muli v5 c512_i32
  let v14 : Index := Scalar.indexCast v13
  let c0 : Index := 0#32
  ![v14.toNat, 0]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_24 : BitVec 32 := 1#32
  let v23 : BitVec 32 := Scalar.muli v7 c1_i32_24
  let v24 : BitVec 32 := Scalar.addi c0_i32_25 v23
  v24.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c512_i32_30 : BitVec 32 := 512#32
  let v33 : BitVec 32 := Scalar.muli v7 c512_i32_30
  let v34 : Index := Scalar.indexCast v33
  let c0_31 : Index := 0#32
  ![v34.toNat, 0]
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_44 : BitVec 32 := 1#32
  let v43 : BitVec 32 := Scalar.muli v5 c1_i32_44
  let v44 : BitVec 32 := Scalar.addi c0_i32_45 v43
  v44.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_65 : BitVec 32 := 1#32
  let v63 : BitVec 32 := Scalar.muli v7 c1_i32_65
  let v64 : BitVec 32 := Scalar.addi c0_i32_66 v63
  v64.toNat
def k0_dev6 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_85 : BitVec 32 := 1#32
  let v83 : BitVec 32 := Scalar.muli v5 c1_i32_85
  let v84 : BitVec 32 := Scalar.addi c0_i32_86 v83
  v84.toNat
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_106 : BitVec 32 := 1#32
  let v103 : BitVec 32 := Scalar.muli v7 c1_i32_106
  let v104 : BitVec 32 := Scalar.addi c0_i32_107 v103
  v104.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_126 : BitVec 32 := 1#32
  let v123 : BitVec 32 := Scalar.muli v5 c1_i32_126
  let v124 : BitVec 32 := Scalar.addi c0_i32_127 v123
  v124.toNat
def k0_dev9 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_146 : BitVec 32 := 1#32
  let v143 : BitVec 32 := Scalar.muli v7 c1_i32_146
  let v144 : BitVec 32 := Scalar.addi c0_i32_147 v143
  v144.toNat
def k0_dev10 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_166 : BitVec 32 := 1#32
  let v163 : BitVec 32 := Scalar.muli v5 c1_i32_166
  let v164 : BitVec 32 := Scalar.addi c0_i32_167 v163
  v164.toNat
def k0_off3 (d0 : Dev nD) (c0_i32_173 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_172 : BitVec 32 := 2#32
  let v173 : BitVec 32 := Scalar.subi v2 c2_i32_172
  let v174 : BitVec 32 := Scalar.subi v173 c0_i32_173
  let c32_i32 : BitVec 32 := 32#32
  let v175 : BitVec 32 := Scalar.addi v174 c32_i32
  let c16_i32_174 : BitVec 32 := 16#32
  let v176 : BitVec 32 := Scalar.remsi v175 c16_i32_174
  let c512_i32_175 : BitVec 32 := 512#32
  let v177 : BitVec 32 := Scalar.muli v176 c512_i32_175
  let v178 : Index := Scalar.indexCast v177
  let c0_176 : Index := 0#32
  ![v178.toNat, 0]
def k0_off4 (d0 : Dev nD) (c0_i32_181 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_180 : BitVec 32 := 2#32
  let v184 : BitVec 32 := Scalar.addi v2 c2_i32_180
  let v185 : BitVec 32 := Scalar.addi v184 c0_i32_181
  let c16_i32_182 : BitVec 32 := 16#32
  let v186 : BitVec 32 := Scalar.remsi v185 c16_i32_182
  let c512_i32_183 : BitVec 32 := 512#32
  let v187 : BitVec 32 := Scalar.muli v186 c512_i32_183
  let v188 : Index := Scalar.indexCast v187
  let c0_184 : Index := 0#32
  ![v188.toNat, 0]
def k0_dev11 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_269 : BitVec 32 := 1#32
  let v271 : BitVec 32 := Scalar.muli v7 c1_i32_269
  let v272 : BitVec 32 := Scalar.addi c0_i32_270 v271
  v272.toNat
def k0_dev12 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_305 : BitVec 32 := 1#32
  let v295 : BitVec 32 := Scalar.muli v5 c1_i32_305
  let v296 : BitVec 32 := Scalar.addi c0_i32_306 v295
  v296.toNat
def k0_dev13 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_341 : BitVec 32 := 1#32
  let v319 : BitVec 32 := Scalar.muli v7 c1_i32_341
  let v320 : BitVec 32 := Scalar.addi c0_i32_342 v319
  v320.toNat
def k0_dev14 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_377 : BitVec 32 := 1#32
  let v343 : BitVec 32 := Scalar.muli v5 c1_i32_377
  let v344 : BitVec 32 := Scalar.addi c0_i32_378 v343
  v344.toNat
def k0_dev15 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_413 : BitVec 32 := 1#32
  let v367 : BitVec 32 := Scalar.muli v7 c1_i32_413
  let v368 : BitVec 32 := Scalar.addi c0_i32_414 v367
  v368.toNat
def k0_dev16 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_449 : BitVec 32 := 1#32
  let v391 : BitVec 32 := Scalar.muli v5 c1_i32_449
  let v392 : BitVec 32 := Scalar.addi c0_i32_450 v391
  v392.toNat
def k0_dev17 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_485 : BitVec 32 := 1#32
  let v415 : BitVec 32 := Scalar.muli v7 c1_i32_485
  let v416 : BitVec 32 := Scalar.addi c0_i32_486 v415
  v416.toNat
def k0_dev18 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_521 : BitVec 32 := 1#32
  let v439 : BitVec 32 := Scalar.muli v5 c1_i32_521
  let v440 : BitVec 32 := Scalar.addi c0_i32_522 v439
  v440.toNat
def k0_dev19 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_542 : BitVec 32 := 1#32
  let v457 : BitVec 32 := Scalar.muli v5 c1_i32_542
  let v458 : BitVec 32 := Scalar.addi c0_i32_543 v457
  v458.toNat
def k0_dev20 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_559 : BitVec 32 := 1#32
  let v467 : BitVec 32 := Scalar.muli v7 c1_i32_559
  let v468 : BitVec 32 := Scalar.addi c0_i32_560 v467
  v468.toNat
def k0_dev21 (d0 : Dev nD) : Nat :=
  let c0_i32_577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_576 : BitVec 32 := 1#32
  let v477 : BitVec 32 := Scalar.muli v5 c1_i32_576
  let v478 : BitVec 32 := Scalar.addi c0_i32_577 v477
  v478.toNat
def k0_dev22 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_593 : BitVec 32 := 1#32
  let v487 : BitVec 32 := Scalar.muli v7 c1_i32_593
  let v488 : BitVec 32 := Scalar.addi c0_i32_594 v487
  v488.toNat
def k0_dev23 (d0 : Dev nD) : Nat :=
  let c0_i32_611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_610 : BitVec 32 := 1#32
  let v497 : BitVec 32 := Scalar.muli v5 c1_i32_610
  let v498 : BitVec 32 := Scalar.addi c0_i32_611 v497
  v498.toNat
def k0_dev24 (d0 : Dev nD) : Nat :=
  let c0_i32_628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_627 : BitVec 32 := 1#32
  let v507 : BitVec 32 := Scalar.muli v7 c1_i32_627
  let v508 : BitVec 32 := Scalar.addi c0_i32_628 v507
  v508.toNat
def k0_dev25 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_644 : BitVec 32 := 1#32
  let v517 : BitVec 32 := Scalar.muli v5 c1_i32_644
  let v518 : BitVec 32 := Scalar.addi c0_i32_645 v517
  v518.toNat
def k0_dev26 (d0 : Dev nD) : Nat :=
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_661 : BitVec 32 := 1#32
  let v527 : BitVec 32 := Scalar.muli v7 c1_i32_661
  let v528 : BitVec 32 := Scalar.addi c0_i32_662 v527
  v528.toNat
def k0_dev27 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_764 : BitVec 32 := 1#32
  let v629 : BitVec 32 := Scalar.muli v7 c1_i32_764
  let v630 : BitVec 32 := Scalar.addi c0_i32_765 v629
  v630.toNat
def k0_dev28 (d0 : Dev nD) : Nat :=
  let c0_i32_804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_803 : BitVec 32 := 1#32
  let v655 : BitVec 32 := Scalar.muli v5 c1_i32_803
  let v656 : BitVec 32 := Scalar.addi c0_i32_804 v655
  v656.toNat
def k0_dev29 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_842 : BitVec 32 := 1#32
  let v681 : BitVec 32 := Scalar.muli v7 c1_i32_842
  let v682 : BitVec 32 := Scalar.addi c0_i32_843 v681
  v682.toNat
def k0_dev30 (d0 : Dev nD) : Nat :=
  let c0_i32_882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_881 : BitVec 32 := 1#32
  let v707 : BitVec 32 := Scalar.muli v5 c1_i32_881
  let v708 : BitVec 32 := Scalar.addi c0_i32_882 v707
  v708.toNat
def k0_dev31 (d0 : Dev nD) : Nat :=
  let c0_i32_921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_920 : BitVec 32 := 1#32
  let v733 : BitVec 32 := Scalar.muli v7 c1_i32_920
  let v734 : BitVec 32 := Scalar.addi c0_i32_921 v733
  v734.toNat
def k0_dev32 (d0 : Dev nD) : Nat :=
  let c0_i32_960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_959 : BitVec 32 := 1#32
  let v759 : BitVec 32 := Scalar.muli v5 c1_i32_959
  let v760 : BitVec 32 := Scalar.addi c0_i32_960 v759
  v760.toNat
def k0_dev33 (d0 : Dev nD) : Nat :=
  let c0_i32_999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_998 : BitVec 32 := 1#32
  let v785 : BitVec 32 := Scalar.muli v7 c1_i32_998
  let v786 : BitVec 32 := Scalar.addi c0_i32_999 v785
  v786.toNat
def k0_dev34 (d0 : Dev nD) : Nat :=
  let c0_i32_1038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1037 : BitVec 32 := 1#32
  let v811 : BitVec 32 := Scalar.muli v5 c1_i32_1037
  let v812 : BitVec 32 := Scalar.addi c0_i32_1038 v811
  v812.toNat
def k0_dev35 (d0 : Dev nD) : Nat :=
  let c0_i32_1059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1058 : BitVec 32 := 1#32
  let v829 : BitVec 32 := Scalar.muli v5 c1_i32_1058
  let v830 : BitVec 32 := Scalar.addi c0_i32_1059 v829
  v830.toNat
def k0_dev36 (d0 : Dev nD) : Nat :=
  let c0_i32_1076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1075 : BitVec 32 := 1#32
  let v839 : BitVec 32 := Scalar.muli v7 c1_i32_1075
  let v840 : BitVec 32 := Scalar.addi c0_i32_1076 v839
  v840.toNat
def k0_dev37 (d0 : Dev nD) : Nat :=
  let c0_i32_1093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1092 : BitVec 32 := 1#32
  let v849 : BitVec 32 := Scalar.muli v5 c1_i32_1092
  let v850 : BitVec 32 := Scalar.addi c0_i32_1093 v849
  v850.toNat
def k0_dev38 (d0 : Dev nD) : Nat :=
  let c0_i32_1110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1109 : BitVec 32 := 1#32
  let v859 : BitVec 32 := Scalar.muli v7 c1_i32_1109
  let v860 : BitVec 32 := Scalar.addi c0_i32_1110 v859
  v860.toNat
def k0_dev39 (d0 : Dev nD) : Nat :=
  let c0_i32_1127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1126 : BitVec 32 := 1#32
  let v869 : BitVec 32 := Scalar.muli v5 c1_i32_1126
  let v870 : BitVec 32 := Scalar.addi c0_i32_1127 v869
  v870.toNat
def k0_dev40 (d0 : Dev nD) : Nat :=
  let c0_i32_1144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1143 : BitVec 32 := 1#32
  let v879 : BitVec 32 := Scalar.muli v7 c1_i32_1143
  let v880 : BitVec 32 := Scalar.addi c0_i32_1144 v879
  v880.toNat
def k0_dev41 (d0 : Dev nD) : Nat :=
  let c0_i32_1161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1160 : BitVec 32 := 1#32
  let v889 : BitVec 32 := Scalar.muli v5 c1_i32_1160
  let v890 : BitVec 32 := Scalar.addi c0_i32_1161 v889
  v890.toNat
def k0_dev42 (d0 : Dev nD) : Nat :=
  let c0_i32_1178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1177 : BitVec 32 := 1#32
  let v899 : BitVec 32 := Scalar.muli v7 c1_i32_1177
  let v900 : BitVec 32 := Scalar.addi c0_i32_1178 v899
  v900.toNat
def k0_dev43 (d0 : Dev nD) : Nat :=
  let c0_i32_1281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1280 : BitVec 32 := 1#32
  let v1001 : BitVec 32 := Scalar.muli v7 c1_i32_1280
  let v1002 : BitVec 32 := Scalar.addi c0_i32_1281 v1001
  v1002.toNat
def k0_dev44 (d0 : Dev nD) : Nat :=
  let c0_i32_1320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1319 : BitVec 32 := 1#32
  let v1027 : BitVec 32 := Scalar.muli v5 c1_i32_1319
  let v1028 : BitVec 32 := Scalar.addi c0_i32_1320 v1027
  v1028.toNat
def k0_dev45 (d0 : Dev nD) : Nat :=
  let c0_i32_1359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1358 : BitVec 32 := 1#32
  let v1053 : BitVec 32 := Scalar.muli v7 c1_i32_1358
  let v1054 : BitVec 32 := Scalar.addi c0_i32_1359 v1053
  v1054.toNat
def k0_dev46 (d0 : Dev nD) : Nat :=
  let c0_i32_1398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1397 : BitVec 32 := 1#32
  let v1079 : BitVec 32 := Scalar.muli v5 c1_i32_1397
  let v1080 : BitVec 32 := Scalar.addi c0_i32_1398 v1079
  v1080.toNat
def k0_dev47 (d0 : Dev nD) : Nat :=
  let c0_i32_1437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1436 : BitVec 32 := 1#32
  let v1105 : BitVec 32 := Scalar.muli v7 c1_i32_1436
  let v1106 : BitVec 32 := Scalar.addi c0_i32_1437 v1105
  v1106.toNat
def k0_dev48 (d0 : Dev nD) : Nat :=
  let c0_i32_1476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1475 : BitVec 32 := 1#32
  let v1131 : BitVec 32 := Scalar.muli v5 c1_i32_1475
  let v1132 : BitVec 32 := Scalar.addi c0_i32_1476 v1131
  v1132.toNat
def k0_dev49 (d0 : Dev nD) : Nat :=
  let c0_i32_1515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1514 : BitVec 32 := 1#32
  let v1157 : BitVec 32 := Scalar.muli v7 c1_i32_1514
  let v1158 : BitVec 32 := Scalar.addi c0_i32_1515 v1157
  v1158.toNat
def k0_dev50 (d0 : Dev nD) : Nat :=
  let c0_i32_1554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1553 : BitVec 32 := 1#32
  let v1183 : BitVec 32 := Scalar.muli v5 c1_i32_1553
  let v1184 : BitVec 32 := Scalar.addi c0_i32_1554 v1183
  v1184.toNat
def k0_dev51 (d0 : Dev nD) : Nat :=
  let c0_i32_1575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1574 : BitVec 32 := 1#32
  let v1201 : BitVec 32 := Scalar.muli v5 c1_i32_1574
  let v1202 : BitVec 32 := Scalar.addi c0_i32_1575 v1201
  v1202.toNat
def k0_dev52 (d0 : Dev nD) : Nat :=
  let c0_i32_1592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1591 : BitVec 32 := 1#32
  let v1211 : BitVec 32 := Scalar.muli v7 c1_i32_1591
  let v1212 : BitVec 32 := Scalar.addi c0_i32_1592 v1211
  v1212.toNat
def k0_dev53 (d0 : Dev nD) : Nat :=
  let c0_i32_1609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1608 : BitVec 32 := 1#32
  let v1221 : BitVec 32 := Scalar.muli v5 c1_i32_1608
  let v1222 : BitVec 32 := Scalar.addi c0_i32_1609 v1221
  v1222.toNat
def k0_dev54 (d0 : Dev nD) : Nat :=
  let c0_i32_1626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1625 : BitVec 32 := 1#32
  let v1231 : BitVec 32 := Scalar.muli v7 c1_i32_1625
  let v1232 : BitVec 32 := Scalar.addi c0_i32_1626 v1231
  v1232.toNat
def k0_dev55 (d0 : Dev nD) : Nat :=
  let c0_i32_1643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1642 : BitVec 32 := 1#32
  let v1241 : BitVec 32 := Scalar.muli v5 c1_i32_1642
  let v1242 : BitVec 32 := Scalar.addi c0_i32_1643 v1241
  v1242.toNat
def k0_dev56 (d0 : Dev nD) : Nat :=
  let c0_i32_1660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1659 : BitVec 32 := 1#32
  let v1251 : BitVec 32 := Scalar.muli v7 c1_i32_1659
  let v1252 : BitVec 32 := Scalar.addi c0_i32_1660 v1251
  v1252.toNat
def k0_dev57 (d0 : Dev nD) : Nat :=
  let c0_i32_1677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1676 : BitVec 32 := 1#32
  let v1261 : BitVec 32 := Scalar.muli v5 c1_i32_1676
  let v1262 : BitVec 32 := Scalar.addi c0_i32_1677 v1261
  v1262.toNat
def k0_dev58 (d0 : Dev nD) : Nat :=
  let c0_i32_1694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1693 : BitVec 32 := 1#32
  let v1271 : BitVec 32 := Scalar.muli v7 c1_i32_1693
  let v1272 : BitVec 32 := Scalar.addi c0_i32_1694 v1271
  v1272.toNat
def k0_dev59 (d0 : Dev nD) : Nat :=
  let c0_i32_1797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1796 : BitVec 32 := 1#32
  let v1373 : BitVec 32 := Scalar.muli v7 c1_i32_1796
  let v1374 : BitVec 32 := Scalar.addi c0_i32_1797 v1373
  v1374.toNat
def k0_dev60 (d0 : Dev nD) : Nat :=
  let c0_i32_1836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1835 : BitVec 32 := 1#32
  let v1399 : BitVec 32 := Scalar.muli v5 c1_i32_1835
  let v1400 : BitVec 32 := Scalar.addi c0_i32_1836 v1399
  v1400.toNat
def k0_dev61 (d0 : Dev nD) : Nat :=
  let c0_i32_1875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1874 : BitVec 32 := 1#32
  let v1425 : BitVec 32 := Scalar.muli v7 c1_i32_1874
  let v1426 : BitVec 32 := Scalar.addi c0_i32_1875 v1425
  v1426.toNat
def k0_dev62 (d0 : Dev nD) : Nat :=
  let c0_i32_1914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1913 : BitVec 32 := 1#32
  let v1451 : BitVec 32 := Scalar.muli v5 c1_i32_1913
  let v1452 : BitVec 32 := Scalar.addi c0_i32_1914 v1451
  v1452.toNat
def k0_dev63 (d0 : Dev nD) : Nat :=
  let c0_i32_1953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1952 : BitVec 32 := 1#32
  let v1477 : BitVec 32 := Scalar.muli v7 c1_i32_1952
  let v1478 : BitVec 32 := Scalar.addi c0_i32_1953 v1477
  v1478.toNat
def k0_dev64 (d0 : Dev nD) : Nat :=
  let c0_i32_1992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1991 : BitVec 32 := 1#32
  let v1503 : BitVec 32 := Scalar.muli v5 c1_i32_1991
  let v1504 : BitVec 32 := Scalar.addi c0_i32_1992 v1503
  v1504.toNat
def k0_dev65 (d0 : Dev nD) : Nat :=
  let c0_i32_2031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2030 : BitVec 32 := 1#32
  let v1529 : BitVec 32 := Scalar.muli v7 c1_i32_2030
  let v1530 : BitVec 32 := Scalar.addi c0_i32_2031 v1529
  v1530.toNat
def k0_dev66 (d0 : Dev nD) : Nat :=
  let c0_i32_2070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2069 : BitVec 32 := 1#32
  let v1555 : BitVec 32 := Scalar.muli v5 c1_i32_2069
  let v1556 : BitVec 32 := Scalar.addi c0_i32_2070 v1555
  v1556.toNat
def k0_dev67 (d0 : Dev nD) : Nat :=
  let c0_i32_2091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2090 : BitVec 32 := 1#32
  let v1573 : BitVec 32 := Scalar.muli v5 c1_i32_2090
  let v1574 : BitVec 32 := Scalar.addi c0_i32_2091 v1573
  v1574.toNat
def k0_dev68 (d0 : Dev nD) : Nat :=
  let c0_i32_2108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2107 : BitVec 32 := 1#32
  let v1583 : BitVec 32 := Scalar.muli v7 c1_i32_2107
  let v1584 : BitVec 32 := Scalar.addi c0_i32_2108 v1583
  v1584.toNat
def k0_dev69 (d0 : Dev nD) : Nat :=
  let c0_i32_2125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2124 : BitVec 32 := 1#32
  let v1593 : BitVec 32 := Scalar.muli v5 c1_i32_2124
  let v1594 : BitVec 32 := Scalar.addi c0_i32_2125 v1593
  v1594.toNat
def k0_dev70 (d0 : Dev nD) : Nat :=
  let c0_i32_2142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2141 : BitVec 32 := 1#32
  let v1603 : BitVec 32 := Scalar.muli v7 c1_i32_2141
  let v1604 : BitVec 32 := Scalar.addi c0_i32_2142 v1603
  v1604.toNat
def k0_dev71 (d0 : Dev nD) : Nat :=
  let c0_i32_2159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2158 : BitVec 32 := 1#32
  let v1613 : BitVec 32 := Scalar.muli v5 c1_i32_2158
  let v1614 : BitVec 32 := Scalar.addi c0_i32_2159 v1613
  v1614.toNat
def k0_dev72 (d0 : Dev nD) : Nat :=
  let c0_i32_2176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2175 : BitVec 32 := 1#32
  let v1623 : BitVec 32 := Scalar.muli v7 c1_i32_2175
  let v1624 : BitVec 32 := Scalar.addi c0_i32_2176 v1623
  v1624.toNat
def k0_dev73 (d0 : Dev nD) : Nat :=
  let c0_i32_2193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2192 : BitVec 32 := 1#32
  let v1633 : BitVec 32 := Scalar.muli v5 c1_i32_2192
  let v1634 : BitVec 32 := Scalar.addi c0_i32_2193 v1633
  v1634.toNat
def k0_dev74 (d0 : Dev nD) : Nat :=
  let c0_i32_2210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2209 : BitVec 32 := 1#32
  let v1643 : BitVec 32 := Scalar.muli v7 c1_i32_2209
  let v1644 : BitVec 32 := Scalar.addi c0_i32_2210 v1643
  v1644.toNat
def k0_dev75 (d0 : Dev nD) : Nat :=
  let c0_i32_2313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2312 : BitVec 32 := 1#32
  let v1745 : BitVec 32 := Scalar.muli v7 c1_i32_2312
  let v1746 : BitVec 32 := Scalar.addi c0_i32_2313 v1745
  v1746.toNat
def k0_dev76 (d0 : Dev nD) : Nat :=
  let c0_i32_2352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2351 : BitVec 32 := 1#32
  let v1771 : BitVec 32 := Scalar.muli v5 c1_i32_2351
  let v1772 : BitVec 32 := Scalar.addi c0_i32_2352 v1771
  v1772.toNat
def k0_dev77 (d0 : Dev nD) : Nat :=
  let c0_i32_2391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2390 : BitVec 32 := 1#32
  let v1797 : BitVec 32 := Scalar.muli v7 c1_i32_2390
  let v1798 : BitVec 32 := Scalar.addi c0_i32_2391 v1797
  v1798.toNat
def k0_dev78 (d0 : Dev nD) : Nat :=
  let c0_i32_2430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2429 : BitVec 32 := 1#32
  let v1823 : BitVec 32 := Scalar.muli v5 c1_i32_2429
  let v1824 : BitVec 32 := Scalar.addi c0_i32_2430 v1823
  v1824.toNat
def k0_dev79 (d0 : Dev nD) : Nat :=
  let c0_i32_2469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2468 : BitVec 32 := 1#32
  let v1849 : BitVec 32 := Scalar.muli v7 c1_i32_2468
  let v1850 : BitVec 32 := Scalar.addi c0_i32_2469 v1849
  v1850.toNat
def k0_dev80 (d0 : Dev nD) : Nat :=
  let c0_i32_2508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2507 : BitVec 32 := 1#32
  let v1875 : BitVec 32 := Scalar.muli v5 c1_i32_2507
  let v1876 : BitVec 32 := Scalar.addi c0_i32_2508 v1875
  v1876.toNat
def k0_dev81 (d0 : Dev nD) : Nat :=
  let c0_i32_2547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2546 : BitVec 32 := 1#32
  let v1901 : BitVec 32 := Scalar.muli v7 c1_i32_2546
  let v1902 : BitVec 32 := Scalar.addi c0_i32_2547 v1901
  v1902.toNat
def k0_dev82 (d0 : Dev nD) : Nat :=
  let c0_i32_2586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2585 : BitVec 32 := 1#32
  let v1927 : BitVec 32 := Scalar.muli v5 c1_i32_2585
  let v1928 : BitVec 32 := Scalar.addi c0_i32_2586 v1927
  v1928.toNat
def k0_dev83 (d0 : Dev nD) : Nat :=
  let c0_i32_2607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2606 : BitVec 32 := 1#32
  let v1945 : BitVec 32 := Scalar.muli v5 c1_i32_2606
  let v1946 : BitVec 32 := Scalar.addi c0_i32_2607 v1945
  v1946.toNat
def k0_dev84 (d0 : Dev nD) : Nat :=
  let c0_i32_2624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2623 : BitVec 32 := 1#32
  let v1955 : BitVec 32 := Scalar.muli v7 c1_i32_2623
  let v1956 : BitVec 32 := Scalar.addi c0_i32_2624 v1955
  v1956.toNat
def k0_dev85 (d0 : Dev nD) : Nat :=
  let c0_i32_2641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2640 : BitVec 32 := 1#32
  let v1965 : BitVec 32 := Scalar.muli v5 c1_i32_2640
  let v1966 : BitVec 32 := Scalar.addi c0_i32_2641 v1965
  v1966.toNat
def k0_dev86 (d0 : Dev nD) : Nat :=
  let c0_i32_2658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2657 : BitVec 32 := 1#32
  let v1975 : BitVec 32 := Scalar.muli v7 c1_i32_2657
  let v1976 : BitVec 32 := Scalar.addi c0_i32_2658 v1975
  v1976.toNat
def k0_dev87 (d0 : Dev nD) : Nat :=
  let c0_i32_2675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2674 : BitVec 32 := 1#32
  let v1985 : BitVec 32 := Scalar.muli v5 c1_i32_2674
  let v1986 : BitVec 32 := Scalar.addi c0_i32_2675 v1985
  v1986.toNat
def k0_dev88 (d0 : Dev nD) : Nat :=
  let c0_i32_2692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2691 : BitVec 32 := 1#32
  let v1995 : BitVec 32 := Scalar.muli v7 c1_i32_2691
  let v1996 : BitVec 32 := Scalar.addi c0_i32_2692 v1995
  v1996.toNat
def k0_dev89 (d0 : Dev nD) : Nat :=
  let c0_i32_2709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2708 : BitVec 32 := 1#32
  let v2005 : BitVec 32 := Scalar.muli v5 c1_i32_2708
  let v2006 : BitVec 32 := Scalar.addi c0_i32_2709 v2005
  v2006.toNat
def k0_dev90 (d0 : Dev nD) : Nat :=
  let c0_i32_2726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2725 : BitVec 32 := 1#32
  let v2015 : BitVec 32 := Scalar.muli v7 c1_i32_2725
  let v2016 : BitVec 32 := Scalar.addi c0_i32_2726 v2015
  v2016.toNat
def k0_dev91 (d0 : Dev nD) : Nat :=
  let c0_i32_2829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2828 : BitVec 32 := 1#32
  let v2117 : BitVec 32 := Scalar.muli v7 c1_i32_2828
  let v2118 : BitVec 32 := Scalar.addi c0_i32_2829 v2117
  v2118.toNat
def k0_dev92 (d0 : Dev nD) : Nat :=
  let c0_i32_2868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2867 : BitVec 32 := 1#32
  let v2143 : BitVec 32 := Scalar.muli v5 c1_i32_2867
  let v2144 : BitVec 32 := Scalar.addi c0_i32_2868 v2143
  v2144.toNat
def k0_dev93 (d0 : Dev nD) : Nat :=
  let c0_i32_2907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2906 : BitVec 32 := 1#32
  let v2169 : BitVec 32 := Scalar.muli v7 c1_i32_2906
  let v2170 : BitVec 32 := Scalar.addi c0_i32_2907 v2169
  v2170.toNat
def k0_dev94 (d0 : Dev nD) : Nat :=
  let c0_i32_2946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2945 : BitVec 32 := 1#32
  let v2195 : BitVec 32 := Scalar.muli v5 c1_i32_2945
  let v2196 : BitVec 32 := Scalar.addi c0_i32_2946 v2195
  v2196.toNat
def k0_dev95 (d0 : Dev nD) : Nat :=
  let c0_i32_2985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2984 : BitVec 32 := 1#32
  let v2221 : BitVec 32 := Scalar.muli v7 c1_i32_2984
  let v2222 : BitVec 32 := Scalar.addi c0_i32_2985 v2221
  v2222.toNat
def k0_dev96 (d0 : Dev nD) : Nat :=
  let c0_i32_3024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3023 : BitVec 32 := 1#32
  let v2247 : BitVec 32 := Scalar.muli v5 c1_i32_3023
  let v2248 : BitVec 32 := Scalar.addi c0_i32_3024 v2247
  v2248.toNat
def k0_dev97 (d0 : Dev nD) : Nat :=
  let c0_i32_3063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3062 : BitVec 32 := 1#32
  let v2273 : BitVec 32 := Scalar.muli v7 c1_i32_3062
  let v2274 : BitVec 32 := Scalar.addi c0_i32_3063 v2273
  v2274.toNat
def k0_dev98 (d0 : Dev nD) : Nat :=
  let c0_i32_3102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3101 : BitVec 32 := 1#32
  let v2299 : BitVec 32 := Scalar.muli v5 c1_i32_3101
  let v2300 : BitVec 32 := Scalar.addi c0_i32_3102 v2299
  v2300.toNat
def k0_dev99 (d0 : Dev nD) : Nat :=
  let c0_i32_3123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3122 : BitVec 32 := 1#32
  let v2317 : BitVec 32 := Scalar.muli v5 c1_i32_3122
  let v2318 : BitVec 32 := Scalar.addi c0_i32_3123 v2317
  v2318.toNat
def k0_dev100 (d0 : Dev nD) : Nat :=
  let c0_i32_3140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3139 : BitVec 32 := 1#32
  let v2327 : BitVec 32 := Scalar.muli v7 c1_i32_3139
  let v2328 : BitVec 32 := Scalar.addi c0_i32_3140 v2327
  v2328.toNat
def k0_dev101 (d0 : Dev nD) : Nat :=
  let c0_i32_3157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3156 : BitVec 32 := 1#32
  let v2337 : BitVec 32 := Scalar.muli v5 c1_i32_3156
  let v2338 : BitVec 32 := Scalar.addi c0_i32_3157 v2337
  v2338.toNat
def k0_dev102 (d0 : Dev nD) : Nat :=
  let c0_i32_3174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3173 : BitVec 32 := 1#32
  let v2347 : BitVec 32 := Scalar.muli v7 c1_i32_3173
  let v2348 : BitVec 32 := Scalar.addi c0_i32_3174 v2347
  v2348.toNat
def k0_dev103 (d0 : Dev nD) : Nat :=
  let c0_i32_3191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3190 : BitVec 32 := 1#32
  let v2357 : BitVec 32 := Scalar.muli v5 c1_i32_3190
  let v2358 : BitVec 32 := Scalar.addi c0_i32_3191 v2357
  v2358.toNat
def k0_dev104 (d0 : Dev nD) : Nat :=
  let c0_i32_3208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3207 : BitVec 32 := 1#32
  let v2367 : BitVec 32 := Scalar.muli v7 c1_i32_3207
  let v2368 : BitVec 32 := Scalar.addi c0_i32_3208 v2367
  v2368.toNat
def k0_dev105 (d0 : Dev nD) : Nat :=
  let c0_i32_3225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3224 : BitVec 32 := 1#32
  let v2377 : BitVec 32 := Scalar.muli v5 c1_i32_3224
  let v2378 : BitVec 32 := Scalar.addi c0_i32_3225 v2377
  v2378.toNat
def k0_dev106 (d0 : Dev nD) : Nat :=
  let c0_i32_3242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3241 : BitVec 32 := 1#32
  let v2387 : BitVec 32 := Scalar.muli v7 c1_i32_3241
  let v2388 : BitVec 32 := Scalar.addi c0_i32_3242 v2387
  v2388.toNat
def k0_dev107 (d0 : Dev nD) : Nat :=
  let c0_i32_3345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3344 : BitVec 32 := 1#32
  let v2489 : BitVec 32 := Scalar.muli v7 c1_i32_3344
  let v2490 : BitVec 32 := Scalar.addi c0_i32_3345 v2489
  v2490.toNat
def k0_dev108 (d0 : Dev nD) : Nat :=
  let c0_i32_3384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3383 : BitVec 32 := 1#32
  let v2515 : BitVec 32 := Scalar.muli v5 c1_i32_3383
  let v2516 : BitVec 32 := Scalar.addi c0_i32_3384 v2515
  v2516.toNat
def k0_dev109 (d0 : Dev nD) : Nat :=
  let c0_i32_3423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3422 : BitVec 32 := 1#32
  let v2541 : BitVec 32 := Scalar.muli v7 c1_i32_3422
  let v2542 : BitVec 32 := Scalar.addi c0_i32_3423 v2541
  v2542.toNat
def k0_dev110 (d0 : Dev nD) : Nat :=
  let c0_i32_3462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3461 : BitVec 32 := 1#32
  let v2567 : BitVec 32 := Scalar.muli v5 c1_i32_3461
  let v2568 : BitVec 32 := Scalar.addi c0_i32_3462 v2567
  v2568.toNat
def k0_dev111 (d0 : Dev nD) : Nat :=
  let c0_i32_3501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3500 : BitVec 32 := 1#32
  let v2593 : BitVec 32 := Scalar.muli v7 c1_i32_3500
  let v2594 : BitVec 32 := Scalar.addi c0_i32_3501 v2593
  v2594.toNat
def k0_dev112 (d0 : Dev nD) : Nat :=
  let c0_i32_3540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3539 : BitVec 32 := 1#32
  let v2619 : BitVec 32 := Scalar.muli v5 c1_i32_3539
  let v2620 : BitVec 32 := Scalar.addi c0_i32_3540 v2619
  v2620.toNat
def k0_dev113 (d0 : Dev nD) : Nat :=
  let c0_i32_3579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3578 : BitVec 32 := 1#32
  let v2645 : BitVec 32 := Scalar.muli v7 c1_i32_3578
  let v2646 : BitVec 32 := Scalar.addi c0_i32_3579 v2645
  v2646.toNat
def k0_dev114 (d0 : Dev nD) : Nat :=
  let c0_i32_3618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3617 : BitVec 32 := 1#32
  let v2671 : BitVec 32 := Scalar.muli v5 c1_i32_3617
  let v2672 : BitVec 32 := Scalar.addi c0_i32_3618 v2671
  v2672.toNat
def k0_dev115 (d0 : Dev nD) : Nat :=
  let c0_i32_3639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3638 : BitVec 32 := 1#32
  let v2689 : BitVec 32 := Scalar.muli v5 c1_i32_3638
  let v2690 : BitVec 32 := Scalar.addi c0_i32_3639 v2689
  v2690.toNat
def k0_dev116 (d0 : Dev nD) : Nat :=
  let c0_i32_3656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3655 : BitVec 32 := 1#32
  let v2699 : BitVec 32 := Scalar.muli v7 c1_i32_3655
  let v2700 : BitVec 32 := Scalar.addi c0_i32_3656 v2699
  v2700.toNat
def k0_dev117 (d0 : Dev nD) : Nat :=
  let c0_i32_3673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3672 : BitVec 32 := 1#32
  let v2709 : BitVec 32 := Scalar.muli v5 c1_i32_3672
  let v2710 : BitVec 32 := Scalar.addi c0_i32_3673 v2709
  v2710.toNat
def k0_dev118 (d0 : Dev nD) : Nat :=
  let c0_i32_3690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3689 : BitVec 32 := 1#32
  let v2719 : BitVec 32 := Scalar.muli v7 c1_i32_3689
  let v2720 : BitVec 32 := Scalar.addi c0_i32_3690 v2719
  v2720.toNat
def k0_dev119 (d0 : Dev nD) : Nat :=
  let c0_i32_3707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3706 : BitVec 32 := 1#32
  let v2729 : BitVec 32 := Scalar.muli v5 c1_i32_3706
  let v2730 : BitVec 32 := Scalar.addi c0_i32_3707 v2729
  v2730.toNat
def k0_dev120 (d0 : Dev nD) : Nat :=
  let c0_i32_3724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3723 : BitVec 32 := 1#32
  let v2739 : BitVec 32 := Scalar.muli v7 c1_i32_3723
  let v2740 : BitVec 32 := Scalar.addi c0_i32_3724 v2739
  v2740.toNat
def k0_dev121 (d0 : Dev nD) : Nat :=
  let c0_i32_3741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3740 : BitVec 32 := 1#32
  let v2749 : BitVec 32 := Scalar.muli v5 c1_i32_3740
  let v2750 : BitVec 32 := Scalar.addi c0_i32_3741 v2749
  v2750.toNat
def k0_dev122 (d0 : Dev nD) : Nat :=
  let c0_i32_3758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3757 : BitVec 32 := 1#32
  let v2759 : BitVec 32 := Scalar.muli v7 c1_i32_3757
  let v2760 : BitVec 32 := Scalar.addi c0_i32_3758 v2759
  v2760.toNat
def k0_dev123 (d0 : Dev nD) : Nat :=
  let c0_i32_3861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3860 : BitVec 32 := 1#32
  let v2861 : BitVec 32 := Scalar.muli v7 c1_i32_3860
  let v2862 : BitVec 32 := Scalar.addi c0_i32_3861 v2861
  v2862.toNat
def k0_dev124 (d0 : Dev nD) : Nat :=
  let c0_i32_3900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3899 : BitVec 32 := 1#32
  let v2887 : BitVec 32 := Scalar.muli v5 c1_i32_3899
  let v2888 : BitVec 32 := Scalar.addi c0_i32_3900 v2887
  v2888.toNat
def k0_dev125 (d0 : Dev nD) : Nat :=
  let c0_i32_3939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3938 : BitVec 32 := 1#32
  let v2913 : BitVec 32 := Scalar.muli v7 c1_i32_3938
  let v2914 : BitVec 32 := Scalar.addi c0_i32_3939 v2913
  v2914.toNat
def k0_dev126 (d0 : Dev nD) : Nat :=
  let c0_i32_3978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3977 : BitVec 32 := 1#32
  let v2939 : BitVec 32 := Scalar.muli v5 c1_i32_3977
  let v2940 : BitVec 32 := Scalar.addi c0_i32_3978 v2939
  v2940.toNat
def k0_dev127 (d0 : Dev nD) : Nat :=
  let c0_i32_4017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4016 : BitVec 32 := 1#32
  let v2965 : BitVec 32 := Scalar.muli v7 c1_i32_4016
  let v2966 : BitVec 32 := Scalar.addi c0_i32_4017 v2965
  v2966.toNat
def k0_dev128 (d0 : Dev nD) : Nat :=
  let c0_i32_4056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4055 : BitVec 32 := 1#32
  let v2991 : BitVec 32 := Scalar.muli v5 c1_i32_4055
  let v2992 : BitVec 32 := Scalar.addi c0_i32_4056 v2991
  v2992.toNat
def k0_dev129 (d0 : Dev nD) : Nat :=
  let c0_i32_4095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4094 : BitVec 32 := 1#32
  let v3017 : BitVec 32 := Scalar.muli v7 c1_i32_4094
  let v3018 : BitVec 32 := Scalar.addi c0_i32_4095 v3017
  v3018.toNat
def k0_dev130 (d0 : Dev nD) : Nat :=
  let c0_i32_4134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4133 : BitVec 32 := 1#32
  let v3043 : BitVec 32 := Scalar.muli v5 c1_i32_4133
  let v3044 : BitVec 32 := Scalar.addi c0_i32_4134 v3043
  v3044.toNat
def k0_dev131 (d0 : Dev nD) : Nat :=
  let c0_i32_4155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4154 : BitVec 32 := 1#32
  let v3061 : BitVec 32 := Scalar.muli v5 c1_i32_4154
  let v3062 : BitVec 32 := Scalar.addi c0_i32_4155 v3061
  v3062.toNat
def k0_dev132 (d0 : Dev nD) : Nat :=
  let c0_i32_4172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4171 : BitVec 32 := 1#32
  let v3071 : BitVec 32 := Scalar.muli v7 c1_i32_4171
  let v3072 : BitVec 32 := Scalar.addi c0_i32_4172 v3071
  v3072.toNat
def k0_dev133 (d0 : Dev nD) : Nat :=
  let c0_i32_4189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4188 : BitVec 32 := 1#32
  let v3081 : BitVec 32 := Scalar.muli v5 c1_i32_4188
  let v3082 : BitVec 32 := Scalar.addi c0_i32_4189 v3081
  v3082.toNat
def k0_dev134 (d0 : Dev nD) : Nat :=
  let c0_i32_4206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4205 : BitVec 32 := 1#32
  let v3091 : BitVec 32 := Scalar.muli v7 c1_i32_4205
  let v3092 : BitVec 32 := Scalar.addi c0_i32_4206 v3091
  v3092.toNat
def k0_dev135 (d0 : Dev nD) : Nat :=
  let c0_i32_4223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4222 : BitVec 32 := 1#32
  let v3101 : BitVec 32 := Scalar.muli v5 c1_i32_4222
  let v3102 : BitVec 32 := Scalar.addi c0_i32_4223 v3101
  v3102.toNat
def k0_dev136 (d0 : Dev nD) : Nat :=
  let c0_i32_4240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4239 : BitVec 32 := 1#32
  let v3111 : BitVec 32 := Scalar.muli v7 c1_i32_4239
  let v3112 : BitVec 32 := Scalar.addi c0_i32_4240 v3111
  v3112.toNat
def k0_dev137 (d0 : Dev nD) : Nat :=
  let c0_i32_4257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4256 : BitVec 32 := 1#32
  let v3121 : BitVec 32 := Scalar.muli v5 c1_i32_4256
  let v3122 : BitVec 32 := Scalar.addi c0_i32_4257 v3121
  v3122.toNat
def k0_dev138 (d0 : Dev nD) : Nat :=
  let c0_i32_4274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4273 : BitVec 32 := 1#32
  let v3131 : BitVec 32 := Scalar.muli v7 c1_i32_4273
  let v3132 : BitVec 32 := Scalar.addi c0_i32_4274 v3131
  v3132.toNat
def k0_dev139 (d0 : Dev nD) : Nat :=
  let c0_i32_4376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4375 : BitVec 32 := 1#32
  let v3233 : BitVec 32 := Scalar.muli v7 c1_i32_4375
  let v3234 : BitVec 32 := Scalar.addi c0_i32_4376 v3233
  v3234.toNat
def k0_dev140 (d0 : Dev nD) : Nat :=
  let c0_i32_4415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4414 : BitVec 32 := 1#32
  let v3259 : BitVec 32 := Scalar.muli v5 c1_i32_4414
  let v3260 : BitVec 32 := Scalar.addi c0_i32_4415 v3259
  v3260.toNat
def k0_dev141 (d0 : Dev nD) : Nat :=
  let c0_i32_4454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4453 : BitVec 32 := 1#32
  let v3285 : BitVec 32 := Scalar.muli v7 c1_i32_4453
  let v3286 : BitVec 32 := Scalar.addi c0_i32_4454 v3285
  v3286.toNat
def k0_dev142 (d0 : Dev nD) : Nat :=
  let c0_i32_4493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4492 : BitVec 32 := 1#32
  let v3311 : BitVec 32 := Scalar.muli v5 c1_i32_4492
  let v3312 : BitVec 32 := Scalar.addi c0_i32_4493 v3311
  v3312.toNat
def k0_dev143 (d0 : Dev nD) : Nat :=
  let c0_i32_4532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4531 : BitVec 32 := 1#32
  let v3337 : BitVec 32 := Scalar.muli v7 c1_i32_4531
  let v3338 : BitVec 32 := Scalar.addi c0_i32_4532 v3337
  v3338.toNat
def k0_dev144 (d0 : Dev nD) : Nat :=
  let c0_i32_4571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4570 : BitVec 32 := 1#32
  let v3363 : BitVec 32 := Scalar.muli v5 c1_i32_4570
  let v3364 : BitVec 32 := Scalar.addi c0_i32_4571 v3363
  v3364.toNat
def k0_dev145 (d0 : Dev nD) : Nat :=
  let c0_i32_4610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4609 : BitVec 32 := 1#32
  let v3389 : BitVec 32 := Scalar.muli v7 c1_i32_4609
  let v3390 : BitVec 32 := Scalar.addi c0_i32_4610 v3389
  v3390.toNat
def k0_dev146 (d0 : Dev nD) : Nat :=
  let c0_i32_4649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4648 : BitVec 32 := 1#32
  let v3415 : BitVec 32 := Scalar.muli v5 c1_i32_4648
  let v3416 : BitVec 32 := Scalar.addi c0_i32_4649 v3415
  v3416.toNat
def k0_dev147 (d0 : Dev nD) : Nat :=
  let c0_i32_4670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4669 : BitVec 32 := 1#32
  let v3433 : BitVec 32 := Scalar.muli v5 c1_i32_4669
  let v3434 : BitVec 32 := Scalar.addi c0_i32_4670 v3433
  v3434.toNat
def k0_dev148 (d0 : Dev nD) : Nat :=
  let c0_i32_4687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4686 : BitVec 32 := 1#32
  let v3443 : BitVec 32 := Scalar.muli v7 c1_i32_4686
  let v3444 : BitVec 32 := Scalar.addi c0_i32_4687 v3443
  v3444.toNat
def k0_dev149 (d0 : Dev nD) : Nat :=
  let c0_i32_4704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4703 : BitVec 32 := 1#32
  let v3453 : BitVec 32 := Scalar.muli v5 c1_i32_4703
  let v3454 : BitVec 32 := Scalar.addi c0_i32_4704 v3453
  v3454.toNat
def k0_dev150 (d0 : Dev nD) : Nat :=
  let c0_i32_4721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4720 : BitVec 32 := 1#32
  let v3463 : BitVec 32 := Scalar.muli v7 c1_i32_4720
  let v3464 : BitVec 32 := Scalar.addi c0_i32_4721 v3463
  v3464.toNat
def k0_dev151 (d0 : Dev nD) : Nat :=
  let c0_i32_4738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4737 : BitVec 32 := 1#32
  let v3473 : BitVec 32 := Scalar.muli v5 c1_i32_4737
  let v3474 : BitVec 32 := Scalar.addi c0_i32_4738 v3473
  v3474.toNat
def k0_dev152 (d0 : Dev nD) : Nat :=
  let c0_i32_4755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4754 : BitVec 32 := 1#32
  let v3483 : BitVec 32 := Scalar.muli v7 c1_i32_4754
  let v3484 : BitVec 32 := Scalar.addi c0_i32_4755 v3483
  v3484.toNat
def k0_dev153 (d0 : Dev nD) : Nat :=
  let c0_i32_4772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4771 : BitVec 32 := 1#32
  let v3493 : BitVec 32 := Scalar.muli v5 c1_i32_4771
  let v3494 : BitVec 32 := Scalar.addi c0_i32_4772 v3493
  v3494.toNat
def k0_dev154 (d0 : Dev nD) : Nat :=
  let c0_i32_4789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4788 : BitVec 32 := 1#32
  let v3503 : BitVec 32 := Scalar.muli v7 c1_i32_4788
  let v3504 : BitVec 32 := Scalar.addi c0_i32_4789 v3503
  v3504.toNat
def k0_dev155 (d0 : Dev nD) : Nat :=
  let c0_i32_4891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4890 : BitVec 32 := 1#32
  let v3605 : BitVec 32 := Scalar.muli v7 c1_i32_4890
  let v3606 : BitVec 32 := Scalar.addi c0_i32_4891 v3605
  v3606.toNat
def k0_dev156 (d0 : Dev nD) : Nat :=
  let c0_i32_4930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4929 : BitVec 32 := 1#32
  let v3631 : BitVec 32 := Scalar.muli v5 c1_i32_4929
  let v3632 : BitVec 32 := Scalar.addi c0_i32_4930 v3631
  v3632.toNat
def k0_dev157 (d0 : Dev nD) : Nat :=
  let c0_i32_4969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4968 : BitVec 32 := 1#32
  let v3657 : BitVec 32 := Scalar.muli v7 c1_i32_4968
  let v3658 : BitVec 32 := Scalar.addi c0_i32_4969 v3657
  v3658.toNat
def k0_dev158 (d0 : Dev nD) : Nat :=
  let c0_i32_5008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5007 : BitVec 32 := 1#32
  let v3683 : BitVec 32 := Scalar.muli v5 c1_i32_5007
  let v3684 : BitVec 32 := Scalar.addi c0_i32_5008 v3683
  v3684.toNat
def k0_dev159 (d0 : Dev nD) : Nat :=
  let c0_i32_5047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5046 : BitVec 32 := 1#32
  let v3709 : BitVec 32 := Scalar.muli v7 c1_i32_5046
  let v3710 : BitVec 32 := Scalar.addi c0_i32_5047 v3709
  v3710.toNat
def k0_dev160 (d0 : Dev nD) : Nat :=
  let c0_i32_5086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5085 : BitVec 32 := 1#32
  let v3735 : BitVec 32 := Scalar.muli v5 c1_i32_5085
  let v3736 : BitVec 32 := Scalar.addi c0_i32_5086 v3735
  v3736.toNat
def k0_dev161 (d0 : Dev nD) : Nat :=
  let c0_i32_5125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5124 : BitVec 32 := 1#32
  let v3761 : BitVec 32 := Scalar.muli v7 c1_i32_5124
  let v3762 : BitVec 32 := Scalar.addi c0_i32_5125 v3761
  v3762.toNat
def k0_dev162 (d0 : Dev nD) : Nat :=
  let c0_i32_5164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5163 : BitVec 32 := 1#32
  let v3787 : BitVec 32 := Scalar.muli v5 c1_i32_5163
  let v3788 : BitVec 32 := Scalar.addi c0_i32_5164 v3787
  v3788.toNat
def k0_dev163 (d0 : Dev nD) : Nat :=
  let c0_i32_5185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5184 : BitVec 32 := 1#32
  let v3805 : BitVec 32 := Scalar.muli v5 c1_i32_5184
  let v3806 : BitVec 32 := Scalar.addi c0_i32_5185 v3805
  v3806.toNat
def k0_dev164 (d0 : Dev nD) : Nat :=
  let c0_i32_5202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5201 : BitVec 32 := 1#32
  let v3815 : BitVec 32 := Scalar.muli v7 c1_i32_5201
  let v3816 : BitVec 32 := Scalar.addi c0_i32_5202 v3815
  v3816.toNat
def k0_dev165 (d0 : Dev nD) : Nat :=
  let c0_i32_5219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5218 : BitVec 32 := 1#32
  let v3825 : BitVec 32 := Scalar.muli v5 c1_i32_5218
  let v3826 : BitVec 32 := Scalar.addi c0_i32_5219 v3825
  v3826.toNat
def k0_dev166 (d0 : Dev nD) : Nat :=
  let c0_i32_5236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5235 : BitVec 32 := 1#32
  let v3835 : BitVec 32 := Scalar.muli v7 c1_i32_5235
  let v3836 : BitVec 32 := Scalar.addi c0_i32_5236 v3835
  v3836.toNat
def k0_dev167 (d0 : Dev nD) : Nat :=
  let c0_i32_5253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5252 : BitVec 32 := 1#32
  let v3845 : BitVec 32 := Scalar.muli v5 c1_i32_5252
  let v3846 : BitVec 32 := Scalar.addi c0_i32_5253 v3845
  v3846.toNat
def k0_dev168 (d0 : Dev nD) : Nat :=
  let c0_i32_5270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5269 : BitVec 32 := 1#32
  let v3855 : BitVec 32 := Scalar.muli v7 c1_i32_5269
  let v3856 : BitVec 32 := Scalar.addi c0_i32_5270 v3855
  v3856.toNat
def k0_dev169 (d0 : Dev nD) : Nat :=
  let c0_i32_5287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5286 : BitVec 32 := 1#32
  let v3865 : BitVec 32 := Scalar.muli v5 c1_i32_5286
  let v3866 : BitVec 32 := Scalar.addi c0_i32_5287 v3865
  v3866.toNat
def k0_dev170 (d0 : Dev nD) : Nat :=
  let c0_i32_5304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5303 : BitVec 32 := 1#32
  let v3875 : BitVec 32 := Scalar.muli v7 c1_i32_5303
  let v3876 : BitVec 32 := Scalar.addi c0_i32_5304 v3875
  v3876.toNat
def k0_dev171 (d0 : Dev nD) : Nat :=
  let c0_i32_5406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5405 : BitVec 32 := 1#32
  let v3977 : BitVec 32 := Scalar.muli v7 c1_i32_5405
  let v3978 : BitVec 32 := Scalar.addi c0_i32_5406 v3977
  v3978.toNat
def k0_dev172 (d0 : Dev nD) : Nat :=
  let c0_i32_5445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5444 : BitVec 32 := 1#32
  let v4003 : BitVec 32 := Scalar.muli v5 c1_i32_5444
  let v4004 : BitVec 32 := Scalar.addi c0_i32_5445 v4003
  v4004.toNat
def k0_dev173 (d0 : Dev nD) : Nat :=
  let c0_i32_5484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5483 : BitVec 32 := 1#32
  let v4029 : BitVec 32 := Scalar.muli v7 c1_i32_5483
  let v4030 : BitVec 32 := Scalar.addi c0_i32_5484 v4029
  v4030.toNat
def k0_dev174 (d0 : Dev nD) : Nat :=
  let c0_i32_5523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5522 : BitVec 32 := 1#32
  let v4055 : BitVec 32 := Scalar.muli v5 c1_i32_5522
  let v4056 : BitVec 32 := Scalar.addi c0_i32_5523 v4055
  v4056.toNat
def k0_dev175 (d0 : Dev nD) : Nat :=
  let c0_i32_5562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5561 : BitVec 32 := 1#32
  let v4081 : BitVec 32 := Scalar.muli v7 c1_i32_5561
  let v4082 : BitVec 32 := Scalar.addi c0_i32_5562 v4081
  v4082.toNat
def k0_dev176 (d0 : Dev nD) : Nat :=
  let c0_i32_5601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5600 : BitVec 32 := 1#32
  let v4107 : BitVec 32 := Scalar.muli v5 c1_i32_5600
  let v4108 : BitVec 32 := Scalar.addi c0_i32_5601 v4107
  v4108.toNat
def k0_dev177 (d0 : Dev nD) : Nat :=
  let c0_i32_5640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5639 : BitVec 32 := 1#32
  let v4133 : BitVec 32 := Scalar.muli v7 c1_i32_5639
  let v4134 : BitVec 32 := Scalar.addi c0_i32_5640 v4133
  v4134.toNat
def k0_dev178 (d0 : Dev nD) : Nat :=
  let c0_i32_5679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5678 : BitVec 32 := 1#32
  let v4159 : BitVec 32 := Scalar.muli v5 c1_i32_5678
  let v4160 : BitVec 32 := Scalar.addi c0_i32_5679 v4159
  v4160.toNat
def k0_dev179 (d0 : Dev nD) : Nat :=
  let c0_i32_5700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5699 : BitVec 32 := 1#32
  let v4177 : BitVec 32 := Scalar.muli v5 c1_i32_5699
  let v4178 : BitVec 32 := Scalar.addi c0_i32_5700 v4177
  v4178.toNat
def k0_dev180 (d0 : Dev nD) : Nat :=
  let c0_i32_5717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5716 : BitVec 32 := 1#32
  let v4187 : BitVec 32 := Scalar.muli v7 c1_i32_5716
  let v4188 : BitVec 32 := Scalar.addi c0_i32_5717 v4187
  v4188.toNat
def k0_dev181 (d0 : Dev nD) : Nat :=
  let c0_i32_5734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5733 : BitVec 32 := 1#32
  let v4197 : BitVec 32 := Scalar.muli v5 c1_i32_5733
  let v4198 : BitVec 32 := Scalar.addi c0_i32_5734 v4197
  v4198.toNat
def k0_dev182 (d0 : Dev nD) : Nat :=
  let c0_i32_5751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5750 : BitVec 32 := 1#32
  let v4207 : BitVec 32 := Scalar.muli v7 c1_i32_5750
  let v4208 : BitVec 32 := Scalar.addi c0_i32_5751 v4207
  v4208.toNat
def k0_dev183 (d0 : Dev nD) : Nat :=
  let c0_i32_5768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5767 : BitVec 32 := 1#32
  let v4217 : BitVec 32 := Scalar.muli v5 c1_i32_5767
  let v4218 : BitVec 32 := Scalar.addi c0_i32_5768 v4217
  v4218.toNat
def k0_dev184 (d0 : Dev nD) : Nat :=
  let c0_i32_5785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5784 : BitVec 32 := 1#32
  let v4227 : BitVec 32 := Scalar.muli v7 c1_i32_5784
  let v4228 : BitVec 32 := Scalar.addi c0_i32_5785 v4227
  v4228.toNat
def k0_dev185 (d0 : Dev nD) : Nat :=
  let c0_i32_5802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5801 : BitVec 32 := 1#32
  let v4237 : BitVec 32 := Scalar.muli v5 c1_i32_5801
  let v4238 : BitVec 32 := Scalar.addi c0_i32_5802 v4237
  v4238.toNat
def k0_dev186 (d0 : Dev nD) : Nat :=
  let c0_i32_5819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5818 : BitVec 32 := 1#32
  let v4247 : BitVec 32 := Scalar.muli v7 c1_i32_5818
  let v4248 : BitVec 32 := Scalar.addi c0_i32_5819 v4247
  v4248.toNat
def k0_dev187 (d0 : Dev nD) : Nat :=
  let c0_i32_5921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5920 : BitVec 32 := 1#32
  let v4349 : BitVec 32 := Scalar.muli v7 c1_i32_5920
  let v4350 : BitVec 32 := Scalar.addi c0_i32_5921 v4349
  v4350.toNat
def k0_dev188 (d0 : Dev nD) : Nat :=
  let c0_i32_5960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5959 : BitVec 32 := 1#32
  let v4375 : BitVec 32 := Scalar.muli v5 c1_i32_5959
  let v4376 : BitVec 32 := Scalar.addi c0_i32_5960 v4375
  v4376.toNat
def k0_dev189 (d0 : Dev nD) : Nat :=
  let c0_i32_5999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5998 : BitVec 32 := 1#32
  let v4401 : BitVec 32 := Scalar.muli v7 c1_i32_5998
  let v4402 : BitVec 32 := Scalar.addi c0_i32_5999 v4401
  v4402.toNat
def k0_dev190 (d0 : Dev nD) : Nat :=
  let c0_i32_6038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6037 : BitVec 32 := 1#32
  let v4427 : BitVec 32 := Scalar.muli v5 c1_i32_6037
  let v4428 : BitVec 32 := Scalar.addi c0_i32_6038 v4427
  v4428.toNat
def k0_dev191 (d0 : Dev nD) : Nat :=
  let c0_i32_6077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6076 : BitVec 32 := 1#32
  let v4453 : BitVec 32 := Scalar.muli v7 c1_i32_6076
  let v4454 : BitVec 32 := Scalar.addi c0_i32_6077 v4453
  v4454.toNat
def k0_dev192 (d0 : Dev nD) : Nat :=
  let c0_i32_6116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6115 : BitVec 32 := 1#32
  let v4479 : BitVec 32 := Scalar.muli v5 c1_i32_6115
  let v4480 : BitVec 32 := Scalar.addi c0_i32_6116 v4479
  v4480.toNat
def k0_dev193 (d0 : Dev nD) : Nat :=
  let c0_i32_6155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6154 : BitVec 32 := 1#32
  let v4505 : BitVec 32 := Scalar.muli v7 c1_i32_6154
  let v4506 : BitVec 32 := Scalar.addi c0_i32_6155 v4505
  v4506.toNat
def k0_dev194 (d0 : Dev nD) : Nat :=
  let c0_i32_6194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6193 : BitVec 32 := 1#32
  let v4531 : BitVec 32 := Scalar.muli v5 c1_i32_6193
  let v4532 : BitVec 32 := Scalar.addi c0_i32_6194 v4531
  v4532.toNat
def k0_dev195 (d0 : Dev nD) : Nat :=
  let c0_i32_6215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6214 : BitVec 32 := 1#32
  let v4549 : BitVec 32 := Scalar.muli v5 c1_i32_6214
  let v4550 : BitVec 32 := Scalar.addi c0_i32_6215 v4549
  v4550.toNat
def k0_dev196 (d0 : Dev nD) : Nat :=
  let c0_i32_6232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6231 : BitVec 32 := 1#32
  let v4559 : BitVec 32 := Scalar.muli v7 c1_i32_6231
  let v4560 : BitVec 32 := Scalar.addi c0_i32_6232 v4559
  v4560.toNat
def k0_dev197 (d0 : Dev nD) : Nat :=
  let c0_i32_6249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6248 : BitVec 32 := 1#32
  let v4569 : BitVec 32 := Scalar.muli v5 c1_i32_6248
  let v4570 : BitVec 32 := Scalar.addi c0_i32_6249 v4569
  v4570.toNat
def k0_dev198 (d0 : Dev nD) : Nat :=
  let c0_i32_6266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6265 : BitVec 32 := 1#32
  let v4579 : BitVec 32 := Scalar.muli v7 c1_i32_6265
  let v4580 : BitVec 32 := Scalar.addi c0_i32_6266 v4579
  v4580.toNat
def k0_dev199 (d0 : Dev nD) : Nat :=
  let c0_i32_6283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6282 : BitVec 32 := 1#32
  let v4589 : BitVec 32 := Scalar.muli v5 c1_i32_6282
  let v4590 : BitVec 32 := Scalar.addi c0_i32_6283 v4589
  v4590.toNat
def k0_dev200 (d0 : Dev nD) : Nat :=
  let c0_i32_6300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6299 : BitVec 32 := 1#32
  let v4599 : BitVec 32 := Scalar.muli v7 c1_i32_6299
  let v4600 : BitVec 32 := Scalar.addi c0_i32_6300 v4599
  v4600.toNat
def k0_dev201 (d0 : Dev nD) : Nat :=
  let c0_i32_6317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6316 : BitVec 32 := 1#32
  let v4609 : BitVec 32 := Scalar.muli v5 c1_i32_6316
  let v4610 : BitVec 32 := Scalar.addi c0_i32_6317 v4609
  v4610.toNat
def k0_dev202 (d0 : Dev nD) : Nat :=
  let c0_i32_6334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6333 : BitVec 32 := 1#32
  let v4619 : BitVec 32 := Scalar.muli v7 c1_i32_6333
  let v4620 : BitVec 32 := Scalar.addi c0_i32_6334 v4619
  v4620.toNat
def k0_dev203 (d0 : Dev nD) : Nat :=
  let c0_i32_6436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6435 : BitVec 32 := 1#32
  let v4721 : BitVec 32 := Scalar.muli v7 c1_i32_6435
  let v4722 : BitVec 32 := Scalar.addi c0_i32_6436 v4721
  v4722.toNat
def k0_dev204 (d0 : Dev nD) : Nat :=
  let c0_i32_6475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6474 : BitVec 32 := 1#32
  let v4747 : BitVec 32 := Scalar.muli v5 c1_i32_6474
  let v4748 : BitVec 32 := Scalar.addi c0_i32_6475 v4747
  v4748.toNat
def k0_dev205 (d0 : Dev nD) : Nat :=
  let c0_i32_6514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6513 : BitVec 32 := 1#32
  let v4773 : BitVec 32 := Scalar.muli v7 c1_i32_6513
  let v4774 : BitVec 32 := Scalar.addi c0_i32_6514 v4773
  v4774.toNat
def k0_dev206 (d0 : Dev nD) : Nat :=
  let c0_i32_6553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6552 : BitVec 32 := 1#32
  let v4799 : BitVec 32 := Scalar.muli v5 c1_i32_6552
  let v4800 : BitVec 32 := Scalar.addi c0_i32_6553 v4799
  v4800.toNat
def k0_dev207 (d0 : Dev nD) : Nat :=
  let c0_i32_6592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6591 : BitVec 32 := 1#32
  let v4825 : BitVec 32 := Scalar.muli v7 c1_i32_6591
  let v4826 : BitVec 32 := Scalar.addi c0_i32_6592 v4825
  v4826.toNat
def k0_dev208 (d0 : Dev nD) : Nat :=
  let c0_i32_6631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6630 : BitVec 32 := 1#32
  let v4851 : BitVec 32 := Scalar.muli v5 c1_i32_6630
  let v4852 : BitVec 32 := Scalar.addi c0_i32_6631 v4851
  v4852.toNat
def k0_dev209 (d0 : Dev nD) : Nat :=
  let c0_i32_6670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6669 : BitVec 32 := 1#32
  let v4877 : BitVec 32 := Scalar.muli v7 c1_i32_6669
  let v4878 : BitVec 32 := Scalar.addi c0_i32_6670 v4877
  v4878.toNat
def k0_dev210 (d0 : Dev nD) : Nat :=
  let c0_i32_6709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6708 : BitVec 32 := 1#32
  let v4903 : BitVec 32 := Scalar.muli v5 c1_i32_6708
  let v4904 : BitVec 32 := Scalar.addi c0_i32_6709 v4903
  v4904.toNat
def k0_dev211 (d0 : Dev nD) : Nat :=
  let c0_i32_6730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6729 : BitVec 32 := 1#32
  let v4921 : BitVec 32 := Scalar.muli v5 c1_i32_6729
  let v4922 : BitVec 32 := Scalar.addi c0_i32_6730 v4921
  v4922.toNat
def k0_dev212 (d0 : Dev nD) : Nat :=
  let c0_i32_6747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6746 : BitVec 32 := 1#32
  let v4931 : BitVec 32 := Scalar.muli v7 c1_i32_6746
  let v4932 : BitVec 32 := Scalar.addi c0_i32_6747 v4931
  v4932.toNat
def k0_dev213 (d0 : Dev nD) : Nat :=
  let c0_i32_6764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6763 : BitVec 32 := 1#32
  let v4941 : BitVec 32 := Scalar.muli v5 c1_i32_6763
  let v4942 : BitVec 32 := Scalar.addi c0_i32_6764 v4941
  v4942.toNat
def k0_dev214 (d0 : Dev nD) : Nat :=
  let c0_i32_6781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6780 : BitVec 32 := 1#32
  let v4951 : BitVec 32 := Scalar.muli v7 c1_i32_6780
  let v4952 : BitVec 32 := Scalar.addi c0_i32_6781 v4951
  v4952.toNat
def k0_dev215 (d0 : Dev nD) : Nat :=
  let c0_i32_6798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6797 : BitVec 32 := 1#32
  let v4961 : BitVec 32 := Scalar.muli v5 c1_i32_6797
  let v4962 : BitVec 32 := Scalar.addi c0_i32_6798 v4961
  v4962.toNat
def k0_dev216 (d0 : Dev nD) : Nat :=
  let c0_i32_6815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6814 : BitVec 32 := 1#32
  let v4971 : BitVec 32 := Scalar.muli v7 c1_i32_6814
  let v4972 : BitVec 32 := Scalar.addi c0_i32_6815 v4971
  v4972.toNat
def k0_dev217 (d0 : Dev nD) : Nat :=
  let c0_i32_6832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6831 : BitVec 32 := 1#32
  let v4981 : BitVec 32 := Scalar.muli v5 c1_i32_6831
  let v4982 : BitVec 32 := Scalar.addi c0_i32_6832 v4981
  v4982.toNat
def k0_dev218 (d0 : Dev nD) : Nat :=
  let c0_i32_6849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6848 : BitVec 32 := 1#32
  let v4991 : BitVec 32 := Scalar.muli v7 c1_i32_6848
  let v4992 : BitVec 32 := Scalar.addi c0_i32_6849 v4991
  v4992.toNat
def k0_dev219 (d0 : Dev nD) : Nat :=
  let c0_i32_6951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6950 : BitVec 32 := 1#32
  let v5093 : BitVec 32 := Scalar.muli v7 c1_i32_6950
  let v5094 : BitVec 32 := Scalar.addi c0_i32_6951 v5093
  v5094.toNat
def k0_dev220 (d0 : Dev nD) : Nat :=
  let c0_i32_6990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6989 : BitVec 32 := 1#32
  let v5119 : BitVec 32 := Scalar.muli v5 c1_i32_6989
  let v5120 : BitVec 32 := Scalar.addi c0_i32_6990 v5119
  v5120.toNat
def k0_dev221 (d0 : Dev nD) : Nat :=
  let c0_i32_7029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7028 : BitVec 32 := 1#32
  let v5145 : BitVec 32 := Scalar.muli v7 c1_i32_7028
  let v5146 : BitVec 32 := Scalar.addi c0_i32_7029 v5145
  v5146.toNat
def k0_dev222 (d0 : Dev nD) : Nat :=
  let c0_i32_7068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7067 : BitVec 32 := 1#32
  let v5171 : BitVec 32 := Scalar.muli v5 c1_i32_7067
  let v5172 : BitVec 32 := Scalar.addi c0_i32_7068 v5171
  v5172.toNat
def k0_dev223 (d0 : Dev nD) : Nat :=
  let c0_i32_7107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7106 : BitVec 32 := 1#32
  let v5197 : BitVec 32 := Scalar.muli v7 c1_i32_7106
  let v5198 : BitVec 32 := Scalar.addi c0_i32_7107 v5197
  v5198.toNat
def k0_dev224 (d0 : Dev nD) : Nat :=
  let c0_i32_7146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7145 : BitVec 32 := 1#32
  let v5223 : BitVec 32 := Scalar.muli v5 c1_i32_7145
  let v5224 : BitVec 32 := Scalar.addi c0_i32_7146 v5223
  v5224.toNat
def k0_dev225 (d0 : Dev nD) : Nat :=
  let c0_i32_7185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7184 : BitVec 32 := 1#32
  let v5249 : BitVec 32 := Scalar.muli v7 c1_i32_7184
  let v5250 : BitVec 32 := Scalar.addi c0_i32_7185 v5249
  v5250.toNat
def k0_dev226 (d0 : Dev nD) : Nat :=
  let c0_i32_7224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_7223 : BitVec 32 := 1#32
  let v5275 : BitVec 32 := Scalar.muli v5 c1_i32_7223
  let v5276 : BitVec 32 := Scalar.addi c0_i32_7224 v5275
  v5276.toNat
abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Loop.lean ====
module

public import proofs.«01_k».proof.Proof.Gen.KernelIdeal
public import proofs.«01_k».proof.Proof.Gen.KernelIdeal.Skeleton

@[expose] public section

noncomputable section

/-! The kernel's body as loops: over the fifteen hops, and at each hop over the eight rings. The printed body is these
    loops unrolled (`body_eq`). -/

namespace Cert.KernelIdeal.Ring

open Cert.KernelIdeal Cert.KernelIdeal.Gen
open Idealize.ShloMosaic Idealize.SL.Sem

variable {F : FTy → Type} [FloatOps F]

/-- The order in which the body visits the eight rings: one of each direction at a time. -/
def order : List (Fin 8) := [0, 4, 1, 5, 2, 6, 3, 7]

/-- Whether ring `g` sends to the right. -/
def toRight (g : Fin 8) : Bool := Nat.blt g.val 4

/-- The device on the left of `d`, as the body computes it; -/
def leftOf (d : Dev nD) : Dev nD := ⟨k0_dev1 d, k0_dev1_lt d⟩
/-- the one on the right. -/
def rightOf (d : Dev nD) : Dev nD := ⟨k0_dev2 d, k0_dev2_lt d⟩
/-- The device ring `g` sends to, from `d`; -/
def nxt (g : Fin 8) (d : Dev nD) : Dev nD := bif toRight g then rightOf d else leftOf d
/-- the one it receives from. -/
def prv (g : Fin 8) (d : Dev nD) : Dev nD := bif toRight g then leftOf d else rightOf d

/-- The slot of hop `k`: a ring's three slots are used in turn. -/
def sl (k : ℕ) : Fin 3 := ⟨k % 3, Nat.mod_lt _ (by decide)⟩

theorem slot_inb (g : Fin 8) (s : Fin 3) : ∀ a, (![g.val, s.val, 0, 0] : Fin 4 → ℕ) a + S1x1x512x512.size a ≤ S8x3x512x512.size a := by
  revert g s; decide

theorem sem_inb (g : Fin 8) (s : Fin 3) : ∀ a, (![g.val, s.val] : Fin 2 → ℕ) a + S1x1.size a ≤ S8x3.size a := by
  revert g s; decide

theorem credit_inb (g : Fin 8) : ∀ a, (![g.val] : Fin 1 → ℕ) a + S1.size a ≤ S8.size a := by
  revert g; decide

theorem col_inb (g : Fin 8) : ∀ a, (![0, 512 * g.val] : Fin 2 → ℕ) a + S512x512.size a ≤ S512x4096.size a := by
  revert g; decide

/-- Slot `s` of ring `g`, as a rectangle of the communication buffer. -/
abbrev slotRect (g : Fin 8) (s : Fin 3) : Rect S8x3x512x512 :=
  Rect.unit (s := S8x3x512x512) ![g.val, s.val, 0, 0] S1x1x512x512.size (slot_inb g s)

/-- The columns of ring `g`, as a rectangle of the second factor or of the result. -/
abbrev colRect (g : Fin 8) : Rect S512x4096 :=
  Rect.unit (s := S512x4096) ![0, 512 * g.val] S512x512.size (col_inb g)

/-- Where the rows start that the body multiplies for ring `g` before the first hop; -/
def seedOff (g : Fin 8) (d : Dev nD) : Fin 2 → ℕ := bif toRight g then k0_off1 d else k0_off2 d

/-- those it multiplies for the sum of hop `k`. -/
def rowOff (g : Fin 8) (k : Fin 15) (d : Dev nD) : Fin 2 → ℕ :=
  bif toRight g then k0_off3 d (BitVec.ofNat 32 k.val) else k0_off4 d (BitVec.ofNat 32 k.val)

/-- A block of rows that starts at `off` lies inside the first factor. -/
abbrev Inb (off : Fin 2 → ℕ) : Prop := ∀ a, off a + S512x512.size a ≤ S8192x512.size a

theorem seed_inb (g : Fin 8) (d : Dev nD) : Inb (seedOff g d) := by
  unfold seedOff; cases toRight g <;> [exact k0_off2_inb d; exact k0_off1_inb d]

theorem row_inb (g : Fin 8) (k : Fin 15) (d : Dev nD) : Inb (rowOff g k d) := by
  unfold rowOff; cases toRight g <;> [exact k0_off4_inb d k; exact k0_off3_inb d k]

/-- The product of two blocks. -/
def prod (x w : Vec F S512x512 .f32) : FVec F S512x512 .f32 :=
  matmul dot_S512x512_S512x512_S512x512_1_0_0_1_n_n none (shapeCast S512x512 x shapeCasts_S512x512_S512x512)
    (shapeCast S512x512 w shapeCasts_S512x512_S512x512) (constant S512x512 .f32 0x00000000#32)

/-- What a slot is stored for a block; -/
def toSlot (v : FVec F S512x512 .f32) : FVec F S1x1x512x512 .f32 := shapeCast S1x1x512x512 v shapeCasts_S512x512_S1x1x512x512

/-- the sum of what a slot holds and a block. -/
def plus (a : Vec F S1x1x512x512 .f32) (p : FVec F S512x512 .f32) : FVec F S512x512 .f32 :=
  addf (shapeCast S512x512 a shapeCasts_S1x1x512x512_S512x512) p

/-- The positive part of a block. -/
def relu (v : FVec F S512x512 .f32) : FVec F S512x512 .f32 :=
  maximumf v (broadcast S512x512 (Scalar.ofBits .f32 0x00000000#32))

section Body

variable (x : Memref sig .tc .vmem S8192x512 .f32) (w : Memref sig .tc .vmem S512x4096 .f32) (o : Memref sig .tc .vmem S512x4096 .f32)
  (comm : Memref sig .tc .vmem S8x3x512x512 .f32) (sendS recvS : DmaSems sig S8x3) (credS : Sems sig S8)

/-- Slot `s` of ring `g`. -/
abbrev slot (g : Fin 8) (s : Fin 3) : Memref sig .tc .vmem S512x512 .f32 :=
  (comm.slice (slotRect g s) (fun _ => rfl)).squeeze S512x512 squeezes_S1x1x512x512_S512x512

/-- The semaphore of ring `g` and slot `s` in an array of them. -/
abbrev semAt (a : DmaSems sig S8x3) (g : Fin 8) (s : Fin 3) : DmaSem sig :=
  ((a.slice (Rect.unit (s := S8x3) ![g.val, s.val] S1x1.size (sem_inb g s))).squeeze S_ squeezes_S1x1_S_).sem

/-- The credit semaphore of ring `g`. -/
abbrev credAt (g : Fin 8) : Sem sig :=
  ((credS.slice (Rect.unit (s := S8) ![g.val] S1.size (credit_inb g))).squeeze S_ squeezes_S1_S_).sem

/-- A computation for each ring of a list in turn. -/
def forRings (f : Fin 8 → Prog (TpuEff nD τ sig (Elt F) Λ₀ .tc) PUnit) : List (Fin 8) → Prog (TpuEff nD τ sig (Elt F) Λ₀ .tc) PUnit
  | [] => pure ⟨⟩
  | g :: gs => do f g; forRings f gs

/-- The same, keeping each ring's value. -/
def gather (f : Fin 8 → Prog (TpuEff nD τ sig (Elt F) Λ₀ .tc) (FVec F S512x512 .f32)) :
    List (Fin 8) → (Fin 8 → FVec F S512x512 .f32) → Prog (TpuEff nD τ sig (Elt F) Λ₀ .tc) (Fin 8 → FVec F S512x512 .f32)
  | [], p => pure p
  | g :: gs, p => do
    let v ← f g
    gather f gs (fun g' => bif Nat.beq g'.val g.val then v else p g')

/-- The transfer of hop `k` on ring `g` begun: slot `k` to the next device's slot `k + 1`. -/
def startHop (d : Dev nD) (k : ℕ) (g : Fin 8) : Prog (TpuEff nD τ sig (Elt F) Λ₀ .tc) PUnit :=
  Prog.lift (.enqueueDma (slot comm g (sl k)) (.remote (Dev.tc (nxt g d)) (slot comm g (sl (k + 1))) (.dma (semAt sendS g (sl k))))
    (.dma (semAt recvS g (sl (k + 1)))) ((View.wordExact_bits rfl).reshape _ _) ((View.wordExact_bits rfl).reshape _ _) ⟨⟨rfl, Or.inl rfl⟩, trivial⟩)

/-- The wait for what hop `k` brings to slot `k + 1`; -/
def waitRecv (k : ℕ) (g : Fin 8) : Prog (TpuEff nD τ sig (Elt F) Λ₀ .tc) PUnit :=
  Prog.lift (.waitDma2 (semAt recvS g (sl (k + 1))) (slot comm g (sl k)) (slot comm g (sl (k + 1)))
    ((View.wordExact_bits rfl).reshape _ _) ((View.wordExact_bits rfl).reshape _ _))

/-- for slot `k` to have been sent. -/
def waitSend (k : ℕ) (g : Fin 8) : Prog (TpuEff nD τ sig (Elt F) Λ₀ .tc) PUnit :=
  Prog.lift (.waitDma2 (semAt sendS g (sl k)) (slot comm g (sl (k + 1))) (slot comm g (sl k))
    ((View.wordExact_bits rfl).reshape _ _) ((View.wordExact_bits rfl).reshape _ _))

/-- The block of rows at `off` multiplied by the columns of ring `g`. -/
def product (off : Fin 2 → ℕ) (h : Inb off) (g : Fin 8) : Prog (TpuEff nD τ sig (Elt F) Λ₀ .tc) (FVec F S512x512 .f32) := do
  let a : Vec F S512x512 .f32 ← Prog.lift (.load x (Rect.unit (s := S8192x512) off S512x512.size h).toLoadRect (View.loadsAt_vmem h_S512x512))
  let b : Vec F S512x512 .f32 ← Prog.lift (.load w (colRect g).toLoadRect (View.loadsAt_vmem h_S512x512))
  pure (prod a b)

/-- What a slot holds; -/
def readSlot (g : Fin 8) (s : Fin 3) : Prog (TpuEff nD τ sig (Elt F) Λ₀ .tc) (Vec F S1x1x512x512 .f32) :=
  Prog.lift (.load comm (slotRect g s).toLoadRect (View.loadsAt_vmem h_S1x1x512x512))

/-- a slot read and then stored a block. -/
def putSlot (g : Fin 8) (s : Fin 3) (v : FVec F S512x512 .f32) : Prog (TpuEff nD τ sig (Elt F) Λ₀ .tc) PUnit := do
  let _ ← readSlot comm g s
  Prog.lift (.store comm (slotRect g s) (toSlot v) Finset.univ (View.stores_vmem_bits_univ h_S1x1x512x512 rfl) (.inl rfl))

/-- The columns of ring `g` of the result read and then stored a block. -/
def putOut (g : Fin 8) (v : FVec F S512x512 .f32) : Prog (TpuEff nD τ sig (Elt F) Λ₀ .tc) PUnit := do
  let _ : Vec F S512x512 .f32 ← Prog.lift (.load o (colRect g).toLoadRect (View.loadsAt_vmem h_S512x512))
  Prog.lift (.store o (colRect g) v Finset.univ (View.stores_vmem_bits_univ h_S512x512 rfl) (.inl rfl))

/-- Ring `g` begun: its first product, sent on. -/
def seed (d : Dev nD) (g : Fin 8) : Prog (TpuEff nD τ sig (Elt F) Λ₀ .tc) PUnit := do
  let v ← product x w (seedOff g d) (seed_inb g d) g
  putSlot comm g (sl 0) v
  startHop comm sendS recvS d 0 g

/-- Hop `k` received on ring `g`, the device's own product added and the sum sent on — from the second hop on, once the
    next device has granted a credit; at the last hop the sum's positive part stored as the result. -/
def receive (d : Dev nD) (k : ℕ) (p : Fin 8 → FVec F S512x512 .f32) (g : Fin 8) : Prog (TpuEff nD τ sig (Elt F) Λ₀ .tc) PUnit := do
  waitRecv comm recvS k g
  let a ← readSlot comm g (sl (k + 1))
  bif Nat.blt k 14 then do
      putSlot comm g (sl (k + 1)) (plus a (p g))
      bif Nat.blt 0 k then semWaitWord (credAt credS g) 1#32 else pure ⟨⟩
      startHop comm sendS recvS d (k + 1) g
    else putOut o g (relu (plus a (p g)))

/-- Hop `k` sent on ring `g`, and the previous device granted a credit for the slot. -/
def grant (d : Dev nD) (k : ℕ) (g : Fin 8) : Prog (TpuEff nD τ sig (Elt F) Λ₀ .tc) PUnit := do
  waitSend comm sendS k g
  bif Nat.blt k 13 then semSignalWord (prv g d) (credAt credS g) 1#32 else pure ⟨⟩

/-- The products for the sums of hop `k`. -/
def products (d : Dev nD) (k : Fin 15) : Prog (TpuEff nD τ sig (Elt F) Λ₀ .tc) (Fin 8 → FVec F S512x512 .f32) :=
  gather (fun g => product x w (rowOff g k d) (row_inb g k d) g) order (fun _ => constant S512x512 .f32 0x00000000#32)

/-- A hop: the products for its sums, what it brings received on every ring, what it sent waited for. -/
def hop (d : Dev nD) (k : Fin 15) : Prog (TpuEff nD τ sig (Elt F) Λ₀ .tc) PUnit := do
  let p ← products x w d k
  forRings (receive o comm sendS recvS credS d k.val p) order
  forRings (grant comm sendS credS d k.val) order

/-- The hops of a list in turn. -/
def hops (d : Dev nD) : List (Fin 15) → Prog (TpuEff nD τ sig (Elt F) Λ₀ .tc) PUnit
  | [] => pure ⟨⟩
  | k :: ks => do hop x w o comm sendS recvS credS d k; hops d ks

/-- Both neighbours told that the device has begun, and theirs awaited. -/
def meet (d : Dev nD) : Prog (TpuEff nD τ sig (Elt F) Λ₀ .tc) PUnit := do
  semSignalWord (leftOf d) (SemArray.scalar (sig.barrier 0 rfl) : Sems sig S_).sem 1#32
  semSignalWord (rightOf d) (SemArray.scalar (sig.barrier 0 rfl) : Sems sig S_).sem 1#32
  semWaitWord (SemArray.scalar (sig.barrier 0 rfl) : Sems sig S_).sem 2#32

/-- The whole body. -/
def body : Prog (TpuEff nD τ sig (Elt F) Λ₀ .tc) PUnit := do
  let d : Dev nD ← Prog.lift .deviceId
  meet d
  forRings (seed x w comm sendS recvS d) order
  hops x w o comm sendS recvS credS d [0, 1, 2, 3, 4, 5, 6, 7, 8, 9, 10, 11, 12, 13, 14]

theorem op_congr {E : Type → Type} {α β : Type} {e : E β} {k k' : β → Prog E α} (h : ∀ x, k x = k' x) : Prog.op e k = Prog.op e k' :=
  congrArg (Prog.op e) (funext h)

set_option maxHeartbeats 0 in
set_option maxRecDepth 1000000 in
theorem body_eq (hx : x.IsWhole) (hw : w.IsWhole) (ho : o.IsWhole) (hc : comm.IsWhole) :
    cc0_body_skel (F := F) x hx w hw o ho comm hc sendS recvS credS = body x w o comm sendS recvS credS := by
  repeat (refine op_congr fun _ => ?_)
  rfl

end Body

end Cert.KernelIdeal.Ring

end
-- ==== Proof.Common.lean ====
module

public import proofs.«01_k».proof.Proof.Loop
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

/-! The rings, the cells of their protocol, what every slot is to hold, and the schedule of the cells' rounds.

Ring `g` sends to the right (`g < 4`) or to the left. Hop `h` of it goes from slot `h` of a device to slot `h + 1` of the
next one (slots counted round). A device may write slot `h + 1` of the next one for hop `h` because: slots 1 and 2 are
handed over when the devices meet (hops 0 and 1); later, the slot is the one whose hop `h - 2` the next device has sent,
which it puts back (`Release`, one key per hop) before it grants its credit. Since credits are only counted, the credit
of hop `j` carries the news of every hop up to `j`. -/

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots initSlots readerAt released writeTok slotInv)

variable {F : FTy → Type} [FloatOps F]

/-! ## The resources -/

/-- A hop of a ring as it is received and sent on by a device: what its slot is put back under. -/
abbrev Key : Type := Dev nD × Fin 8 × ℕ
abbrev URing : Type := URounds (GSem nD τ sig) ℕ
abbrev UU : Type := UR sig nD τ × (URing × USlots Key)

local notation "𝕄" => MT nD τ sig ℕ (Elt F) ℕ UU ℕ

/-- No loop of the kernel needs a variant. -/
abbrev 𝒱₀ : Variants := Variants.none

abbrev EP : Emb (UR sig nD τ) (MT nD τ sig ℕ (Elt F) ℕ UU ℕ) := embL
abbrev ER : Emb URing (MT nD τ sig ℕ (Elt F) ℕ UU ℕ) := (Emb.inl : Emb URing (URing × USlots Key)).trans embR
abbrev ES : Emb (USlots Key) (MT nD τ sig ℕ (Elt F) ℕ UU ℕ) := (Emb.inr : Emb (USlots Key) (URing × USlots Key)).trans embR

/-! ## The rings -/

theorem leftOf_val (d : Dev nD) : (leftOf d).val = (d.val + 15) % 16 := k0_dev1_eq d
theorem rightOf_val (d : Dev nD) : (rightOf d).val = (d.val + 1) % 16 := k0_dev2_eq d

theorem left_right (d : Dev nD) : leftOf (rightOf d) = d :=
  Fin.ext (by rw [leftOf_val, rightOf_val]; have := d.isLt; simp only [nD] at this; omega)
theorem right_left (d : Dev nD) : rightOf (leftOf d) = d :=
  Fin.ext (by rw [rightOf_val, leftOf_val]; have := d.isLt; simp only [nD] at this; omega)

theorem prv_nxt (g : Fin 8) (d : Dev nD) : prv g (nxt g d) = d := by
  unfold prv nxt; cases toRight g <;> [exact right_left d; exact left_right d]
theorem nxt_prv (g : Fin 8) (d : Dev nD) : nxt g (prv g d) = d := by
  unfold prv nxt; cases toRight g <;> [exact left_right d; exact right_left d]

/-- The devices moved on by one along ring `g`. -/
def along (g : Fin 8) : Dev nD ≃ Dev nD := ⟨nxt g, prv g, prv_nxt g, nxt_prv g⟩

theorem order_univ : (Finset.univ : Finset (Fin 8)) = order.toFinset := by decide
theorem order_nodup : order.Nodup := by decide

theorem sl_add_three (h : ℕ) : sl (h + 3) = sl h := Fin.ext (Nat.add_mod_right h 3)

/-! ## The cells -/

abbrev xM : Memref sig .tc .vmem S8192x512 .f32 := Memref.whole cc0_stg0_0
abbrev wM : Memref sig .tc .vmem S512x4096 .f32 := Memref.whole cc0_stg1_0
abbrev oM : Memref sig .tc .vmem S512x4096 .f32 := Memref.whole cc0_stg2_0
abbrev cM : Memref sig .tc .vmem S8x3x512x512 .f32 := Memref.whole cc0_scratch0

/-- The semaphore on which neighbours meet. -/
abbrev barS : Sem sig := (SemArray.scalar (sig.barrier 0 rfl) : Sems sig S_).sem

/-- The kernel's own semaphores: a slot's for sending, a slot's for receiving, a ring's for credits; -/
abbrev Own : Type := (Fin 8 × Fin 3) ⊕ (Fin 8 × Fin 3) ⊕ Fin 8
/-- all of the protocol's, with the one on which neighbours meet. -/
abbrev Cell : Type := Unit ⊕ Own

def osem : Own → SemLoc sig
  | .inl (g, s) => .dma (semAt cc0_scratch1 g s)
  | .inr (.inl (g, s)) => .dma (semAt cc0_scratch2 g s)
  | .inr (.inr g) => .reg (credAt cc0_scratch3 g)

def csem : Cell → SemLoc sig
  | .inl _ => .reg barS
  | .inr k => osem k

abbrev cBar : Cell := .inl ()
abbrev cSend (g : Fin 8) (s : Fin 3) : Cell := .inr (.inl (g, s))
abbrev cRecv (g : Fin 8) (s : Fin 3) : Cell := .inr (.inr (.inl (g, s)))
abbrev cCred (g : Fin 8) : Cell := .inr (.inr (.inr g))

/-- Which cell a semaphore is. -/
def kindOf : SemLoc sig → Option Cell
  | .reg q => if q.val < 8 then some (cCred ⟨q.val % 8, Nat.mod_lt _ (by decide)⟩) else some cBar
  | .dma q =>
    if q.val < 3 then none
    else if q.val < 27 then some (cSend ⟨(q.val - 3) / 3 % 8, Nat.mod_lt _ (by decide)⟩ (sl (q.val - 3)))
    else some (cRecv ⟨(q.val - 27) / 3 % 8, Nat.mod_lt _ (by decide)⟩ (sl (q.val - 27)))

theorem kindOf_csem (k : Cell) : kindOf (csem k) = some k := by
  revert k; decide

theorem csem_injective : Function.Injective csem := fun a b h =>
  Option.some.inj (by rw [← kindOf_csem a, ← kindOf_csem b, h])

/-- A cell on a device. -/
abbrev cell (c : Dev nD) (k : Cell) : GSem nD τ sig := ((c : Thread nD τ), csem k)

theorem cell_injective : Function.Injective fun ck : Dev nD × Cell => cell ck.1 ck.2 := by
  rintro ⟨c, k⟩ ⟨c', k'⟩ h
  have h1 : c = c' := congrArg (fun g : GSem nD τ sig => g.1.1) h
  have h2 : k = k' := csem_injective (congrArg Prod.snd h)
  rw [h1, h2]

/-- The units a block's transfer adds to a cell. -/
def N : ℕ := (slot cM 0 0).view.dmaCredit
theorem N_pos : 0 < N := View.dmaCredit_pos _ (by decide)
theorem credit_eq (g : Fin 8) (s : Fin 3) : (slot cM g s).view.dmaCredit = N := rfl
attribute [irreducible] N

end Cert.KernelIdeal.Ring

end
-- ==== Proof.Schedule.lean ====
module

public import proofs.«01_k».proof.Proof.Common

@[expose] public section

noncomputable section

/-! What every slot is to hold, the schedule of the cells' rounds, what a device owes and the levels of the cells. -/

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots initSlots readerAt released writeTok slotInv)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- What device `c` multiplies: its first factor, staged; -/
def xstg (c : Dev nD) : (cc0_stg0_0 : Ref sig .tc).ty.Contents (Elt F) :=
  (win0_0.blk (0 : Fin 1)).view.read (Elt F) ((s₀ m ρ).mem ((c : Thread nD τ).loc main_arg0))
/-- its second. -/
def wstg (c : Dev nD) : (cc0_stg1_0 : Ref sig .tc).ty.Contents (Elt F) :=
  (win0_1.blk (0 : Fin 1)).view.read (Elt F) ((s₀ m ρ).mem ((c : Thread nD τ).loc main_arg1))

/-- A block of rows of device `c`'s first factor; -/
def rows (c : Dev nD) (off : Fin 2 → ℕ) (h : Inb off) : Vec F S512x512 .f32 :=
  xM.view.readAt (Elt F) (Rect.unit (s := S8192x512) off S512x512.size h).toLoadRect (xstg m ρ c)
/-- the columns of ring `g` of its second; -/
def cols (c : Dev nD) (g : Fin 8) : Vec F S512x512 .f32 := wM.view.readAt (Elt F) (colRect g).toLoadRect (wstg m ρ c)
/-- their product. -/
def prodAt (c : Dev nD) (g : Fin 8) (off : Fin 2 → ℕ) (h : Inb off) : FVec F S512x512 .f32 :=
  prod (rows m ρ c off h) (cols m ρ c g)

/-- A hop's number among the fifteen. -/
def hopIx (k : ℕ) : Fin 15 := ⟨k % 15, Nat.mod_lt _ (by decide)⟩
theorem hopIx_val (k : Fin 15) : hopIx k.val = k := Fin.ext (Nat.mod_eq_of_lt k.isLt)

/-- What device `c` adds to what hop `k` brings on ring `g`. -/
def addend (g : Fin 8) (k : ℕ) (c : Dev nD) : FVec F S512x512 .f32 := prodAt m ρ c g (rowOff g (hopIx k) c) (row_inb g (hopIx k) c)

/-- What device `c` sends in hop `k` of ring `g`: first a product, then what it received plus a product. -/
def acc (g : Fin 8) : ℕ → Dev nD → FVec F S512x512 .f32
  | 0, c => prodAt m ρ c g (seedOff g c) (seed_inb g c)
  | k + 1, c => addf (acc g k (prv g c)) (addend m ρ g k c)

/-! ## Slots -/

/-- Slot `s` of ring `g` on device `c`, its elements in hand; -/
def slotPts (c : Dev nD) (g : Fin 8) (s : Fin 3) (f : Buf (Elt F) ((slot cM g s).view.loc (c : Thread nD τ))) : sProp 𝕄 :=
  (slot cM g s).view.loc (c : Thread nD τ) ↦[(slot cM g s).view.set]{fullShare} f
/-- at any contents; -/
def someSlot (c : Dev nD) (g : Fin 8) (s : Fin 3) : sProp 𝕄 := iprop(∃ f, slotPts c g s f)
/-- holding `v`. -/
def slotIs (c : Dev nD) (g : Fin 8) (s : Fin 3) (v : FVec F S512x512 .f32) : sProp 𝕄 :=
  iprop(∃ f, ⌜(slot cM g s).view.read (Elt F) f = v⌝ ∗ slotPts c g s f)

instance slotPts_storable (c : Dev nD) (g : Fin 8) (s : Fin 3) (f) : BI.Storable (upEmb : UEmb _ 𝕄) (slotPts (F := F) c g s f) := by
  unfold slotPts; infer_instance
instance someSlot_storable (c : Dev nD) (g : Fin 8) (s : Fin 3) : BI.Storable (upEmb : UEmb _ 𝕄) (someSlot (F := F) c g s) := by
  unfold someSlot; infer_instance
instance slotIs_storable (c : Dev nD) (g : Fin 8) (s : Fin 3) (v) : BI.Storable (upEmb : UEmb _ 𝕄) (slotIs (F := F) c g s v) := by
  unfold slotIs; infer_instance

theorem slotIs_some (c : Dev nD) (g : Fin 8) (s : Fin 3) (v : FVec F S512x512 .f32) : slotIs c g s v ⊢ (someSlot c g s : sProp 𝕄) := by
  unfold slotIs someSlot
  iintro ⟨%f, -, H⟩
  iexists f; iexact H

/-! ## Releases -/

/-- What device `c` puts back after it has sent hop `i` of ring `g`: the slot, and that it is at the round of its receive
    cell in which hop `i + 2` is to arrive. -/
def putBack (x : Key) : sProp 𝕄 :=
  iprop(someSlot x.1 x.2.1 (sl x.2.2) ∗ reached ER (cell x.1 (cRecv x.2.1 (sl (x.2.2 + 3)))) ((x.2.2 + 2) / 3))

instance putBack_storable (x : Key) : BI.Storable (upEmb : UEmb _ 𝕄) (putBack (F := F) x) := by
  unfold putBack; infer_instance

/-- That device `c` has put back the slots of the first `n` hops of ring `g`. -/
def heard (c : Dev nD) (g : Fin 8) (n : ℕ) : sProp 𝕄 := bigSep (Finset.range n) fun i => released ES (c, g, i) 1

instance heard_persistent (c : Dev nD) (g : Fin 8) (n : ℕ) : BI.Persistent (heard (F := F) c g n) := by
  unfold heard; infer_instance
instance heard_storable (c : Dev nD) (g : Fin 8) (n : ℕ) : BI.Storable (upEmb : UEmb _ 𝕄) (heard (F := F) c g n) := by
  unfold heard; infer_instance

/-! ## The schedule -/

/-- What device `c` is handed by the neighbour it sends to on the rings of one direction: slots 1 and 2 of each. -/
def barPay (c : Dev nD) (right : Bool) : sProp 𝕄 :=
  bigSep (Finset.univ.filter fun g : Fin 8 => toRight g = right) fun g => iprop(someSlot (nxt g c) g 1 ∗ someSlot (nxt g c) g 2)

instance barPay_storable (c : Dev nD) (b : Bool) : BI.Storable (upEmb : UEmb _ 𝕄) (barPay (F := F) c b) := by
  unfold barPay; infer_instance

/-- The hop that lands in slot `s` in round `r`. -/
def hopOf (s : Fin 3) (r : ℕ) : ℕ := 3 * r + (s.val + 2) % 3
theorem hopOf_sl (h : ℕ) : hopOf (sl (h + 1)) (h / 3) = h := by
  unfold hopOf sl; dsimp only; omega

/-- A slot's cells have a round for each of its five hops, with one payment; the meeting cell one round with a payment from
    each neighbour (1 from the right one); a credit cell one round with a payment for each of the thirteen credits. -/
def dutiesOf : Cell → ℕ → Finset ℕ
  | .inl _, r => if r = 0 then Finset.range 2 else ∅
  | .inr (.inl _), r => if r < 5 then {0} else ∅
  | .inr (.inr (.inl _)), r => if r < 5 then {0} else ∅
  | .inr (.inr (.inr _)), r => if r = 0 then Finset.range 13 else ∅

def amountOf : Cell → ℕ
  | .inl _ => 1
  | .inr (.inl _) => N
  | .inr (.inr (.inl _)) => N
  | .inr (.inr (.inr _)) => 1

theorem amountOf_pos (k : Cell) : 0 < amountOf k := by
  rcases k with _ | _ | _ | _
  · exact Nat.one_pos
  · exact N_pos
  · exact N_pos
  · exact Nat.one_pos

/-- A sent slot comes back; a received one holds what the previous device sent; a credit brings the news of the next device's
    releases. -/
def payloadOf (c : Dev nD) : Cell → ℕ → ℕ → sProp 𝕄
  | .inl _, _, d => barPay c (d == 1)
  | .inr (.inl (g, s)), _, _ => someSlot c g s
  | .inr (.inr (.inl (g, s))), r, _ => slotIs c g s (acc m ρ g (hopOf s r) (prv g c))
  | .inr (.inr (.inr g)), _, j => heard (nxt g c) g (j + 1)

instance payloadOf_storable (c : Dev nD) (k : Cell) (r d : ℕ) : BI.Storable (upEmb : UEmb _ 𝕄) (payloadOf (F := F) m ρ c k r d) := by
  rcases k with _ | ⟨g, s⟩ | ⟨g, s⟩ | g <;> unfold payloadOf <;> infer_instance

def ringRd : Rounds.Schedule (GSem nD τ sig) ℕ 𝕄 where
  duties g r := if g.1.2 = .tc then (kindOf g.2).elim ∅ fun k => dutiesOf k r else ∅
  unitless _ := False
  amount g _ _ := (kindOf g.2).elim 1 amountOf
  payload g r d := (kindOf g.2).elim iprop(emp) fun k => payloadOf m ρ g.1.1 k r d
  amount_pos g _ _ _ := by
    cases kindOf g.2 with
    | none => exact Nat.one_pos
    | some k => exact amountOf_pos k

instance ringRd_storable (g : GSem nD τ sig) (r d : ℕ) : BI.Storable (upEmb : UEmb _ 𝕄) ((ringRd (F := F) m ρ).payload g r d) := by
  dsimp only [ringRd]
  cases kindOf g.2 with
  | none => exact (inferInstance : BI.Storable (upEmb : UEmb _ 𝕄) iprop(emp))
  | some k => exact payloadOf_storable m ρ _ k r d

section Facts
variable (c : Dev nD) (k : Cell) (r d : ℕ)

theorem duties_eq : (ringRd (F := F) m ρ).duties (cell c k) r = dutiesOf k r := by
  dsimp only [ringRd]; rw [if_pos rfl, kindOf_csem]; rfl
theorem amount_eq : (ringRd (F := F) m ρ).amount (cell c k) r d = amountOf k := by
  dsimp only [ringRd]; rw [kindOf_csem]; rfl
theorem payload_eq : (ringRd (F := F) m ρ).payload (cell c k) r d = payloadOf m ρ c k r d := by
  dsimp only [ringRd]; rw [kindOf_csem]; rfl
theorem expect_eq : (ringRd (F := F) m ρ).expect (cell c k) r = (dutiesOf k r).card * amountOf k := by
  unfold Schedule.expect Schedule.amountOf
  rw [duties_eq, Finset.sum_congr rfl fun d _ => amount_eq m ρ c k r d, Finset.sum_const, smul_eq_mul]

/-- What is left of a round of which nothing was taken. -/
theorem rest_eq : bigSep ((ringRd (F := F) m ρ).duties (cell c k) r \ ∅) (fun d => (ringRd (F := F) m ρ).payload (cell c k) r d)
    = bigSep (dutiesOf k r) (fun d => payloadOf m ρ c k r d) := by
  rw [Finset.sdiff_empty, duties_eq]; exact bigSep_congr fun d _ => payload_eq m ρ c k r d

/-- From its fifth round on a cell has no payment. -/
theorem duties_later (hr : 5 ≤ r) : (ringRd (F := F) m ρ).duties (cell c k) r = ∅ := by
  rw [duties_eq]
  rcases k with _ | _ | _ | _
  · exact if_neg (by omega)
  · exact if_neg (by omega)
  · exact if_neg (by omega)
  · exact if_neg (by omega)

end Facts

theorem duties_send {g : Fin 8} {s : Fin 3} {r : ℕ} (hr : r < 5) : dutiesOf (cSend g s) r = {0} := if_pos hr
theorem duties_recv {g : Fin 8} {s : Fin 3} {r : ℕ} (hr : r < 5) : dutiesOf (cRecv g s) r = {0} := if_pos hr

/-! ## What a device owes -/

/-- What device `c` owes once it has sent the first `a g` hops and granted the first `b g` credits of every ring `g`. -/
def ringOwed (c : Dev nD) (g : Fin 8) (a b : ℕ) : CellTallies nD τ sig ℕ :=
  (∑ h ∈ Finset.Ico a 15, tallyAt (cell (nxt g c) (cRecv g (sl (h + 1)))) h N)
    + ∑ j ∈ Finset.Ico b 13, tallyAt (cell (prv g c) (cCred g)) j 1
def owed (c : Dev nD) (a b : Fin 8 → ℕ) : CellTallies nD τ sig ℕ := ∑ g, ringOwed c g (a g) (b g)

/-- At launch a device owes all of that and a unit to each neighbour's meeting cell. -/
def O₁ (c : Dev nD) : CellTallies nD τ sig ℕ := owed c (fun _ => 0) (fun _ => 0) + tallyAt (cell (rightOf c) cBar) 0 1
def O₀ (c : Dev nD) : CellTallies nD τ sig ℕ := O₁ c + tallyAt (cell (leftOf c) cBar) 0 1

/-- Owing the sum with ring `g`'s part changed from `u` to `v`. -/
theorem owed_step {c : Dev nD} {a b a' b' : Fin 8 → ℕ} (g : Fin 8) (t : CellTallies nD τ sig ℕ)
    (h : ∀ g', g' ≠ g → ringOwed c g' (a g') (b g') = ringOwed c g' (a' g') (b' g'))
    (hg : ringOwed c g (a g) (b g) = ringOwed c g (a' g) (b' g) + t) : owed c a b = owed c a' b' + t := by
  unfold owed
  rw [← Finset.add_sum_erase _ _ (Finset.mem_univ g), ← Finset.add_sum_erase _ (fun g => ringOwed c g (a' g) (b' g)) (Finset.mem_univ g),
    Finset.sum_congr rfl fun g' h' => h g' (Finset.mem_erase.mp h').1, hg, add_right_comm]

/-- A sum over a run of numbers with its first set apart. -/
theorem sum_Ico_bot {a n : ℕ} (h : a < n) (f : ℕ → CellTallies nD τ sig ℕ) :
    ∑ i ∈ Finset.Ico a n, f i = f a + ∑ i ∈ Finset.Ico (a + 1) n, f i := by
  rw [show Finset.Ico a n = insert a (Finset.Ico (a + 1) n) by ext x; simp only [Finset.mem_Ico, Finset.mem_insert]; omega,
    Finset.sum_insert (by rw [Finset.mem_Ico]; omega)]

/-- Sending a hop pays one of the dues; -/
theorem ringOwed_send (c : Dev nD) (g : Fin 8) {a : ℕ} (b : ℕ) (h : a < 15) :
    ringOwed c g a b = ringOwed c g (a + 1) b + tallyAt (cell (nxt g c) (cRecv g (sl (a + 1)))) a N := by
  unfold ringOwed; rw [sum_Ico_bot h]; ac_rfl
/-- so does granting a credit. -/
theorem ringOwed_grant (c : Dev nD) (g : Fin 8) (a : ℕ) {b : ℕ} (h : b < 13) :
    ringOwed c g a b = ringOwed c g a (b + 1) + tallyAt (cell (prv g c) (cCred g)) b 1 := by
  unfold ringOwed; rw [sum_Ico_bot h]; ac_rfl

theorem ringOwed_sent (c : Dev nD) (g : Fin 8) {a a' : ℕ} (b : ℕ) (h : 15 ≤ a) (h' : 15 ≤ a') : ringOwed c g a b = ringOwed c g a' b := by
  unfold ringOwed; rw [Finset.Ico_eq_empty_of_le h, Finset.Ico_eq_empty_of_le h']
theorem ringOwed_granted (c : Dev nD) (g : Fin 8) (a : ℕ) {b b' : ℕ} (h : 13 ≤ b) (h' : 13 ≤ b') : ringOwed c g a b = ringOwed c g a b' := by
  unfold ringOwed; rw [Finset.Ico_eq_empty_of_le h, Finset.Ico_eq_empty_of_le h']

/-- Nothing is owed once all is sent and granted. -/
theorem owed_done (c : Dev nD) {a b : Fin 8 → ℕ} (ha : ∀ g, 15 ≤ a g) (hb : ∀ g, 13 ≤ b g) : owed c a b = 0 := by
  unfold owed ringOwed
  exact Finset.sum_eq_zero fun g _ => by rw [Finset.Ico_eq_empty_of_le (ha g), Finset.Ico_eq_empty_of_le (hb g), Finset.sum_empty, Finset.sum_empty, add_zero]

theorem tally_pos {g g' : GSem nD τ sig} {ι ι' n : ℕ} (h : 0 < tallyAt (nD := nD) (τ := τ) (sig := sig) g ι n g' ι') : g' = g ∧ ι' = ι := by
  rw [tallyAt_apply] at h
  by_contra hn
  rw [if_neg hn] at h
  exact Nat.lt_irrefl 0 h

/-- What is owed is owed to some hop's receive cell or for some credit. -/
theorem owed_pos {c : Dev nD} {a b : Fin 8 → ℕ} {q : GSem nD τ sig} {ι : ℕ} (h : 0 < owed c a b q ι) :
    ∃ g, (q = cell (nxt g c) (cRecv g (sl (ι + 1))) ∧ a g ≤ ι ∧ ι < 15) ∨ (q = cell (prv g c) (cCred g) ∧ b g ≤ ι ∧ ι < 13) := by
  unfold owed ringOwed at h
  rw [Finset.sum_apply, Finsupp.finset_sum_apply] at h
  obtain ⟨g, -, hg⟩ := Finset.exists_ne_zero_of_sum_ne_zero (Nat.pos_iff_ne_zero.mp h)
  refine ⟨g, ?_⟩
  rw [Pi.add_apply, Finsupp.add_apply, Finset.sum_apply, Finsupp.finset_sum_apply, Finset.sum_apply, Finsupp.finset_sum_apply] at hg
  rcases Nat.eq_zero_or_pos (∑ h ∈ Finset.Ico (a g) 15, tallyAt (cell (nxt g c) (cRecv g (sl (h + 1)))) h N q ι) with h0 | h0
  · rw [h0, Nat.zero_add] at hg
    obtain ⟨j, hj, hp⟩ := Finset.exists_ne_zero_of_sum_ne_zero hg
    obtain ⟨rfl, rfl⟩ := tally_pos (Nat.pos_iff_ne_zero.mpr hp)
    exact Or.inr ⟨rfl, Finset.mem_Ico.mp hj⟩
  · obtain ⟨j, hj, hp⟩ := Finset.exists_ne_zero_of_sum_ne_zero (Nat.pos_iff_ne_zero.mp h0)
    obtain ⟨rfl, rfl⟩ := tally_pos (Nat.pos_iff_ne_zero.mpr hp)
    exact Or.inl ⟨rfl, Finset.mem_Ico.mp hj⟩

/-! ## Levels -/

def L (q : GSem nD τ sig) : Finset ℕ := if q.1.2 = .tc then Finset.range 16 else ∅
theorem L_of_ne (q : GSem nD τ sig) (h : q.1.2 ≠ .tc) : L q = ∅ := if_neg h
theorem mem_L (c : Dev nD) (sm : SemLoc sig) {ι : ℕ} (h : ι < 16) : ι ∈ L ((c : Thread nD τ), sm) := by
  unfold L; rw [if_pos rfl]; exact Finset.mem_range.mpr h

/-- Hop by hop: what arrives, what was sent, the credit; below them the meeting, below it the staging. -/
def lvOf : Cell → ℕ → ℕ
  | .inl _, _ => 1
  | .inr (.inl _), ι => 4 * ι + 3
  | .inr (.inr (.inl _)), ι => 4 * ι + 2
  | .inr (.inr (.inr _)), ι => 4 * ι + 4
def lv (q : GSem nD τ sig) (ι : ℕ) : ℕ := (kindOf q.2).elim 0 fun k => lvOf k ι
theorem lv_cell (c : Dev nD) (k : Cell) (ι : ℕ) : lv (cell c k) ι = lvOf k ι := by
  unfold lv; rw [kindOf_csem]; rfl

/-- A device may wait for anything whose level is below all it still owes. -/
theorem mayWait_owed (c : Dev nD) (sm : SemLoc sig) {ι : ℕ} (hι : ι < 16) {a b : Fin 8 → ℕ}
    (ha : ∀ g, lv ((c : Thread nD τ), sm) ι < 4 * a g + 2) (hb : ∀ g, lv ((c : Thread nD τ), sm) ι < 4 * b g + 4) :
    (levAts L lv : sProp 𝕄) ⊢ MayWait (c : Thread nD τ) sm ι (owed c a b) := by
  refine MayOwe.of_cut (L := L) (lev := lv) (lv ((c : Thread nD τ), sm) ι) (fun p hp => by rw [Finset.mem_singleton.mp hp]; exact mem_L c sm hι)
    (fun q u hq => ?_) (fun p hp => by rw [Finset.mem_singleton.mp hp]) (fun q u hq => ?_)
  · obtain ⟨g, ⟨rfl, -, h⟩ | ⟨rfl, -, h⟩⟩ := owed_pos hq
    · exact mem_L _ _ (by omega)
    · exact mem_L _ _ (by omega)
  · obtain ⟨g, ⟨rfl, h, -⟩ | ⟨rfl, h, -⟩⟩ := owed_pos hq
    · rw [lv_cell]; have := ha g; show _ < 4 * u + 2; omega
    · rw [lv_cell]; have := hb g; show _ < 4 * u + 4; omega

/-- Before anything the staging may be waited for. -/
theorem mayWait_stage (c : Dev nD) (sm : SemLoc sig) (hs : kindOf sm = none) :
    (levAts L lv : sProp 𝕄) ⊢ MayWait (c : Thread nD τ) sm 0 (O₀ c) := by
  have hpos {q : GSem nD τ sig} {u : ℕ} (hq : 0 < O₀ c q u) :
      (∃ d k, q = cell d k ∧ u < 16 ∧ 0 < lvOf k u) := by
    unfold O₀ O₁ at hq
    rw [Pi.add_apply, Finsupp.add_apply, Pi.add_apply, Finsupp.add_apply] at hq
    rcases Nat.eq_zero_or_pos (owed c (fun _ => 0) (fun _ => 0) q u) with h0 | h0
    · rw [h0, Nat.zero_add] at hq
      rcases Nat.eq_zero_or_pos (tallyAt (cell (rightOf c) cBar) 0 1 q u) with h1 | h1
      · rw [h1, Nat.zero_add] at hq
        obtain ⟨rfl, rfl⟩ := tally_pos hq
        exact ⟨_, _, rfl, by decide, by decide⟩
      · obtain ⟨rfl, rfl⟩ := tally_pos h1
        exact ⟨_, _, rfl, by decide, by decide⟩
    · obtain ⟨g, ⟨rfl, -, h⟩ | ⟨rfl, -, h⟩⟩ := owed_pos h0
      · exact ⟨_, _, rfl, by omega, Nat.succ_pos _⟩
      · exact ⟨_, _, rfl, by omega, Nat.succ_pos _⟩
  refine MayOwe.of_cut (L := L) (lev := lv) 0 (fun p hp => by rw [Finset.mem_singleton.mp hp]; exact mem_L c sm (by omega))
    (fun q u hq => ?_) (fun p hp => by rw [Finset.mem_singleton.mp hp]; unfold lv; rw [hs]; exact Nat.le_refl 0) (fun q u hq => ?_)
  · obtain ⟨d, k, rfl, h, -⟩ := hpos hq
    exact mem_L _ _ h
  · obtain ⟨d, k, rfl, -, h⟩ := hpos hq
    rw [lv_cell]; exact h

end Cert.KernelIdeal.Ring

end
-- ==== Proof.Steps.lean ====
module

public import proofs.«01_k».proof.Proof.Schedule

@[expose] public section

noncomputable section

/-! The single steps of a device on a ring: a wait for what arrives, for what was sent, for a credit; a transfer; a credit
    granted; a slot read and written. -/

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots initSlots readerAt released writeTok slotInv)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Cell → ℕ) (J : Key → ℕ)

/-- A program of device `c` runs safely and ends in `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What everyone knows -/

/-- The hops whose slots are put back. -/
def keys : Finset Key := Finset.univ ×ˢ Finset.univ ×ˢ Finset.range 13
theorem mem_keys {c : Dev nD} {g : Fin 8} {i : ℕ} (h : i < 13) : (c, g, i) ∈ keys := by
  unfold keys
  exact Finset.mem_product.mpr ⟨Finset.mem_univ _, Finset.mem_product.mpr ⟨Finset.mem_univ _, Finset.mem_range.mpr h⟩⟩

/-- The cells' invariants, that each is at its first round, the slots' invariants, and the levels. -/
def recs : sProp 𝕄 :=
  iprop((bigSep Finset.univ fun ck : Dev nD × Cell => cellInv ER (ringRd m ρ) (K ck) (cell ck.1 ck.2))
    ∗ (bigSep Finset.univ fun ck : Dev nD × Cell => reached ER (cell ck.1 ck.2) 0)
    ∗ (bigSep keys fun x => slotInv ES (J x) x (putBack x))
    ∗ levAts L lv)

instance recs_persistent : BI.Persistent (recs m ρ K J) := by unfold recs; infer_instance

theorem recs_cell (c : Dev nD) (k : Cell) : recs m ρ K J ⊢ cellInv ER (ringRd m ρ) (K (c, k)) (cell c k) := by
  refine BIBase.Entails.trans ?_ (bigSep_elim (Finset.mem_univ (c, k)) (Φ := fun ck : Dev nD × Cell => cellInv ER (ringRd m ρ) (K ck) (cell ck.1 ck.2)))
  unfold recs
  iintro ⟨H, -⟩
  iexact H
theorem recs_first (c : Dev nD) (k : Cell) : recs m ρ K J ⊢ reached ER (cell c k) 0 := by
  refine BIBase.Entails.trans ?_ (bigSep_elim (Finset.mem_univ (c, k)) (Φ := fun ck : Dev nD × Cell => (reached ER (cell ck.1 ck.2) 0 : sProp 𝕄)))
  unfold recs
  iintro ⟨-, H, -⟩
  iexact H
theorem recs_slot (c : Dev nD) (g : Fin 8) {i : ℕ} (h : i < 13) : recs m ρ K J ⊢ slotInv ES (J (c, g, i)) (c, g, i) (putBack (c, g, i)) := by
  refine BIBase.Entails.trans ?_ (bigSep_elim (mem_keys (c := c) (g := g) h) (Φ := fun x => (slotInv ES (J x) x (putBack x) : sProp 𝕄)))
  unfold recs
  iintro ⟨-, -, H, -⟩
  iexact H
theorem recs_levels : recs m ρ K J ⊢ levAts L lv := by
  unfold recs
  iintro ⟨-, -, -, H⟩
  iexact H

set_option maxRecDepth 8000 in
theorem recs_mayWait (c : Dev nD) (sm : SemLoc sig) {ι : ℕ} (hι : ι < 16) {a b : Fin 8 → ℕ}
    (ha : ∀ g, lv ((c : Thread nD τ), sm) ι < 4 * a g + 2) (hb : ∀ g, lv ((c : Thread nD τ), sm) ι < 4 * b g + 4) :
    recs m ρ K J ⊢ MayWait (c : Thread nD τ) sm ι (owed c a b) :=
  (recs_levels m ρ K J).trans (mayWait_owed c sm hι ha hb)

/-! ## A ring's resources on a device -/

section Ring
variable (c : Dev nD) (g : Fin 8)

/-- What the device owes, whatever it has waited for. -/
def owing (O : CellTallies nD τ sig ℕ) : sProp 𝕄 := iprop(∃ W, owes (c : Thread nD τ) O W)

/-- The credit of hop `h` under way; -/
def flight (h : ℕ) : sProp 𝕄 := cred (tallyAt (cell c (cSend g (sl h))) h N)
/-- that of hop `h` arriving. -/
def arrival (h : ℕ) : sProp 𝕄 := cred (tallyAt (cell c (cRecv g (sl (h + 1)))) h N)
/-- The send cell of hop `h` at that hop's round; -/
def sndPos (h : ℕ) : sProp 𝕄 :=
  iprop(atPos ER (cell c (cSend g (sl h))) (h / 3) ∅ 0 ∗ reached ER (cell c (cSend g (sl h))) (h / 3))
/-- the receive cell. -/
def rcvPos (h : ℕ) : sProp 𝕄 :=
  iprop(atPos ER (cell c (cRecv g (sl (h + 1)))) (h / 3) ∅ 0 ∗ reached ER (cell c (cRecv g (sl (h + 1)))) (h / 3))
/-- The right to send hop `h`. -/
def hopTok (h : ℕ) : sProp 𝕄 :=
  iprop(dutyTok ER (cell c (cSend g (sl h))) (h / 3) 0 ∗ dutyTok ER (cell (nxt g c) (cRecv g (sl (h + 1)))) (h / 3) 0)
/-- The next device's slot of hop `i`, to be taken against a credit; -/
def take (i : ℕ) : sProp 𝕄 := iprop(cred (tallyAt (cell c (cCred g)) i 1) ∗ writeTok ES (nxt g c, g, i) 1)
/-- the device's own, to be put back and a credit granted. -/
def give (i : ℕ) : sProp 𝕄 := iprop(readerAt ES (c, g, i) 0 ∗ dutyTok ER (cell (prv g c) (cCred g)) 0 i)
/-- `n` credits waited for: at least as many heard of. -/
def credSt (n : ℕ) : sProp 𝕄 :=
  iprop(∃ T : Finset ℕ, ⌜T ⊆ Finset.range 13 ∧ n ≤ T.card⌝ ∗ atPos ER (cell c (cCred g)) 0 T n
    ∗ bigSep T fun j => heard (nxt g c) g (j + 1))

instance heard_elim_persistent (T : Finset ℕ) : BI.Persistent (bigSep T fun j => heard (F := F) c g (j + 1)) := by infer_instance

variable {c g}

/-- A wait for the whole of a round with one payment. -/
theorem wait_cell (k : Cell) {n r : ℕ} {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (csem k) n Kt)
    (hn : n = amountOf k) (hd : dutiesOf k r = {0}) (ι : ℕ) {O : CellTallies nD τ sig ℕ} {W : Waits sig ℕ} {Q : PUnit → sProp 𝕄} :
    iprop(recs m ρ K J ∗ cred (tallyAt (cell c k) ι n) ∗ owes (c : Thread nD τ) O W ∗ MayWait (c : Thread nD τ) (csem k) ι O
        ∗ atPos ER (cell c k) r ∅ 0)
      ⊢ iprop(((payloadOf m ρ c k r 0 ∗ (atPos ER (cell c k) (r + 1) ∅ 0 ∗ reached ER (cell c k) (r + 1)) ∗ owing c O) -∗ Q ⟨⟩)
          -∗ runs c (.op w .ret) Q) := by
  iintro ⟨#Hr, Hc, HO, Hm, Hat⟩ HK
  iapply (Rounds.wp_wait_rest_token 𝒱₀ ER (ringRd m ρ) (c : Thread nD τ) none (κ := K (c, k)) hw (Set.mem_univ _) ι (O := O) (W := W)
      (R := r) (m := 0) (T := ∅) (by rw [Nat.zero_add, hn, expect_eq, hd, Finset.card_singleton, Nat.one_mul])) $$ [Hc HO Hm Hat]
  · isplitr; · iapply (recs_cell m ρ K J c k); iexact Hr
    isplitl [Hc]; · iexact Hc
    isplitl [HO]; · iexact HO
    isplitl [Hm]; · iexact Hm
    iexact Hat
  iintro ⟨HO, Hat, #Hre, Hp⟩
  ihave Hp := (Entails.of_eq ((rest_eq m ρ c k r).trans (by rw [hd, bigSep_singleton]))) $$ Hp
  rw [wp_ret]; imodintro
  iapply HK
  isplitl [Hp]; · iexact Hp
  isplitl [Hat]
  · isplitl [Hat] <;> iassumption
  unfold owing
  iexists _; iexact HO

/-- The wait for hop `h`: slot `h + 1` holds what the previous device sent. -/
theorem wait_recv {h : ℕ} (hh : h < 15) {a b : Fin 8 → ℕ} (ha : ∀ g, h + 1 ≤ a g) (hb : ∀ g, h ≤ b g) {Q : PUnit → sProp 𝕄} :
    iprop(recs m ρ K J ∗ arrival c g h ∗ rcvPos c g h ∗ owing c (owed c a b))
      ⊢ iprop(((slotIs c g (sl (h + 1)) (acc m ρ g h (prv g c)) ∗ rcvPos c g (h + 3) ∗ owing c (owed c a b)) -∗ Q ⟨⟩)
          -∗ runs c (waitRecv cM cc0_scratch2 h g) Q) := by
  have hp : payloadOf m ρ c (cRecv g (sl (h + 1))) (h / 3) 0 = slotIs c g (sl (h + 1)) (acc m ρ g h (prv g c)) := by
    show slotIs c g (sl (h + 1)) (acc m ρ g (hopOf (sl (h + 1)) (h / 3)) (prv g c)) = _
    rw [hopOf_sl]
  rw [← hp]
  unfold arrival rcvPos waitRecv Prog.lift
  rw [show h + 3 + 1 = h + 1 + 3 from rfl, sl_add_three, Nat.add_div_right h (by decide)]
  iintro ⟨#Hr, Hc, ⟨Hat, -⟩, HO⟩ HK
  unfold owing
  icases HO with ⟨%W, HO⟩
  iapply (wait_cell m ρ K J (cRecv g (sl (h + 1))) (n := N) (r := h / 3)
    (fun Kt => (wpE_waitDma2_eq 𝒱₀ (c : Thread nD τ) none Set.univ Kt).trans (by rw [credit_eq]; rfl)) rfl (duties_recv (by omega)) h
    (O := owed c a b) (W := W)) $$ [Hc HO Hat]
  · isplitr; · iexact Hr
    isplitl [Hc]; · iexact Hc
    isplitl [HO]; · iexact HO
    isplitr
    · iapply (recs_mayWait m ρ K J c (csem (cRecv g (sl (h + 1)))) (ι := h) (by omega) (a := a) (b := b)
        (fun g' => (lv_cell c (cRecv g (sl (h + 1))) h).le.trans_lt (by have := ha g'; show 4 * h + 2 < _; omega))
        (fun g' => (lv_cell c (cRecv g (sl (h + 1))) h).le.trans_lt (by have := hb g'; show 4 * h + 2 < _; omega)))
      iexact Hr
    iexact Hat
  iexact HK

/-- The wait for hop `h` to have been sent: its slot is the device's again. -/
theorem wait_send {h : ℕ} (hh : h < 15) {a b : Fin 8 → ℕ} (ha : ∀ g, h + 2 ≤ a g) (hb : ∀ g, h ≤ b g) {Q : PUnit → sProp 𝕄} :
    iprop(recs m ρ K J ∗ flight c g h ∗ sndPos c g h ∗ owing c (owed c a b))
      ⊢ iprop(((someSlot c g (sl h) ∗ sndPos c g (h + 3) ∗ owing c (owed c a b)) -∗ Q ⟨⟩)
          -∗ runs c (waitSend cM cc0_scratch1 h g) Q) := by
  have hp : payloadOf m ρ c (cSend g (sl h)) (h / 3) 0 = someSlot c g (sl h) := rfl
  rw [← hp]
  unfold flight sndPos waitSend Prog.lift
  rw [sl_add_three, Nat.add_div_right h (by decide)]
  iintro ⟨#Hr, Hc, ⟨Hat, -⟩, HO⟩ HK
  unfold owing
  icases HO with ⟨%W, HO⟩
  iapply (wait_cell m ρ K J (cSend g (sl h)) (n := N) (r := h / 3)
    (fun Kt => (wpE_waitDma2_eq 𝒱₀ (c : Thread nD τ) none Set.univ Kt).trans (by rw [credit_eq]; rfl)) rfl (duties_send (by omega)) h
    (O := owed c a b) (W := W)) $$ [Hc HO Hat]
  · isplitr; · iexact Hr
    isplitl [Hc]; · iexact Hc
    isplitl [HO]; · iexact HO
    isplitr
    · iapply (recs_mayWait m ρ K J c (csem (cSend g (sl h))) (ι := h) (by omega) (a := a) (b := b)
        (fun g' => (lv_cell c (cSend g (sl h)) h).le.trans_lt (by have := ha g'; show 4 * h + 3 < _; omega))
        (fun g' => (lv_cell c (cSend g (sl h)) h).le.trans_lt (by have := hb g'; show 4 * h + 3 < _; omega)))
      iexact Hr
    iexact Hat
  iexact HK

/-- Hop `h` sent: the slot's contents go to the next device's slot `h + 1`. -/
theorem start_hop {h : ℕ} (hh : h < 15) {O O' : CellTallies nD τ sig ℕ}
    (hO : O = O' + tallyAt (cell (nxt g c) (cRecv g (sl (h + 1)))) h N) {Q : PUnit → sProp 𝕄} :
    iprop(recs m ρ K J ∗ slotIs c g (sl h) (acc m ρ g h c) ∗ someSlot (nxt g c) g (sl (h + 1)) ∗ hopTok c g h
        ∗ reached ER (cell c (cSend g (sl h))) (h / 3) ∗ reached ER (cell (nxt g c) (cRecv g (sl (h + 1)))) (h / 3) ∗ owing c O)
      ⊢ iprop(((flight c g h ∗ owing c O') -∗ Q ⟨⟩) -∗ runs c (startHop cM cc0_scratch1 cc0_scratch2 c h g) Q) := by
  have hp : payloadOf m ρ (nxt g c) (cRecv g (sl (h + 1))) (h / 3) 0 = slotIs (nxt g c) g (sl (h + 1)) (acc m ρ g h c) := by
    show slotIs (nxt g c) g (sl (h + 1)) (acc m ρ g (hopOf (sl (h + 1)) (h / 3)) (prv g (nxt g c))) = _
    rw [hopOf_sl, prv_nxt]
  unfold slotIs someSlot slotPts hopTok owing startHop Prog.lift
  iintro ⟨#Hr, ⟨%f, %hf, Hs⟩, ⟨%f', Hd⟩, ⟨Ht, Ht'⟩, #Hre, #Hre', %W, HO⟩ HK
  iapply (Rounds.wp_send_pointsTo 𝒱₀ ER (ringRd m ρ) (c : Thread nD τ) none (κ₁ := K (c, cSend g (sl h)))
      (κ₂ := K (nxt g c, cRecv g (sl (h + 1)))) (r₁ := h / 3) (r₂ := h / 3) (d₁ := 0) (d₂ := 0) (fs := f) (fd := f') (q := fullShare)
      (by rw [duties_eq m ρ c (cSend g (sl h)), duties_send (by omega)]; exact Finset.mem_singleton_self _)
      (show 0 ∈ (ringRd m ρ).duties (cell (nxt g c) (cRecv g (sl (h + 1)))) (h / 3) by
        rw [duties_eq, duties_recv (by omega)]; exact Finset.mem_singleton_self _)
      h h N (show View.amount _ (SemLoc.dma (semAt cc0_scratch2 g (sl (h + 1)))) = N from credit_eq g (sl (h + 1))) (amount_eq m ρ c (cSend g (sl h)) (h / 3) 0) (amount_eq m ρ (nxt g c) (cRecv g (sl (h + 1))) (h / 3) 0)
      O' hO (W := W)
      (by rw [payload_eq m ρ c (cSend g (sl h))]
          show _ ⊢ someSlot c g (sl h)
          unfold someSlot slotPts
          iintro H; iexists f; iexact H)
      (by show _ ⊢ (ringRd m ρ).payload (cell (nxt g c) (cRecv g (sl (h + 1)))) (h / 3) 0
          rw [payload_eq, hp]
          unfold slotIs
          iintro H
          iexists _
          isplitr
          · ipureintro; exact (View.read_write_univ f' _).trans hf
          unfold slotPts
          iexact H)) $$ [Hs Hd Ht Ht' HO]
  · isplitr; · iapply (recs_cell m ρ K J c (cSend g (sl h))); iexact Hr
    isplitr; · iapply (recs_cell m ρ K J (nxt g c) (cRecv g (sl (h + 1)))); iexact Hr
    isplitl [Hs]; · iexact Hs
    isplitl [Hd]; · iexact Hd
    isplitl [HO]; · iexact HO
    isplitl [Ht]; · iexact Ht
    isplitr; · iexact Hre
    isplitl [Ht']; · iexact Ht'
    iexact Hre'
  iintro ⟨Hc, HO⟩
  rw [wp_ret]; imodintro
  iapply HK
  unfold flight
  isplitl [Hc]; · iexact Hc
  iexists W; iexact HO

end Ring

end Cert.KernelIdeal.Ring

end
-- ==== Proof.Moves.lean ====
module

public import proofs.«01_k».proof.Proof.Steps
public import Idealize.ShloMosaic.Lib.Pipeline.Value
public import Idealize.SL.BI.BigOpNat

@[expose] public section

noncomputable section

/-! The single steps of a device on a ring, continued: credits, slots read and written, products, the result. -/

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots initSlots readerAt released writeTok slotInv)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Cell → ℕ) (J : Key → ℕ)
variable {c : Dev nD} {g : Fin 8}

/-! ## Credits -/

/-- Among more than `n` of the thirteen credits is one of number `n` or later. -/
theorem exists_late {T : Finset ℕ} {n : ℕ} (h : n + 1 ≤ T.card) : ∃ j ∈ T, n ≤ j := by
  by_contra hn
  have hs : T ⊆ Finset.range n := fun j hj => Finset.mem_range.mpr (Nat.lt_of_not_le fun hle => hn ⟨j, hj, hle⟩)
  have := Finset.card_le_card hs
  rw [Finset.card_range] at this
  omega

/-- Who has heard of `n + 1` credits knows that the slot of hop `n` was put back. -/
theorem heard_released {T : Finset ℕ} {n : ℕ} (h : n + 1 ≤ T.card) (c : Dev nD) (g : Fin 8) :
    (bigSep T fun j => heard (F := F) c g (j + 1)) ⊢ released ES (c, g, n) 1 := by
  obtain ⟨j, hj, hle⟩ := exists_late h
  refine BIBase.Entails.trans (bigSep_elim hj) ?_
  unfold heard
  exact bigSep_elim (Finset.mem_range.mpr (Nat.lt_succ_of_le hle)) (Φ := fun i => (released ES (c, g, i) 1 : sProp 𝕄))

/-- The wait for a credit: the next device's slot of hop `n` is taken. -/
theorem take_credit {n : ℕ} (hn : n < 13) {a b : Fin 8 → ℕ} (ha : ∀ g, n + 1 ≤ a g) (hb : ∀ g, n + 1 ≤ b g) {Q : PUnit → sProp 𝕄} :
    iprop(recs m ρ K J ∗ credSt c g n ∗ take c g n ∗ owing c (owed c a b))
      ⊢ iprop(((credSt c g (n + 1) ∗ putBack (nxt g c, g, n) ∗ owing c (owed c a b)) -∗ Q ⟨⟩)
          -∗ runs c (semWaitWord (credAt cc0_scratch3 g) 1#32) Q) := by
  unfold credSt take owing semWaitWord
  iintro ⟨#Hr, ⟨%T, %hT, Hat, #Hh⟩, ⟨Hc, Hw⟩, %W, HO⟩ HK
  iapply (Rounds.wp_wait 𝒱₀ ER (ringRd m ρ) (c : Thread nD τ) none (κ := K (c, cCred g)) (wpE_semWait_eq 𝒱₀ (c : Thread nD τ) none Set.univ)
      (Set.mem_univ _) (cr := Finsupp.single n 1) (O := owed c a b) (W := W) {(csem (cCred g), n)} (R := 0) (m := n) (T := T)
      ((Util.total_single n 1).trans (by decide))
      (fun q hq => by
        obtain ⟨u, hu, rfl⟩ := Finset.mem_image.mp hq
        have : u = n := by
          by_contra hne
          rw [Finsupp.mem_support_iff, Finsupp.single_apply, if_neg (fun h => hne h.symm)] at hu
          exact hu rfl
        rw [this]; exact Finset.mem_singleton_self _)) $$ [Hc HO Hat]
  · isplitr; · iapply (recs_cell m ρ K J c (cCred g)); iexact Hr
    isplitl [Hc]; · iexact Hc
    isplitl [HO]; · iexact HO
    isplitr
    · iapply (recs_mayWait m ρ K J c (csem (cCred g)) (ι := n) (by omega) (a := a) (b := b)
        (fun g' => (lv_cell c (cCred g) n).le.trans_lt (by have := ha g'; show 4 * n + 4 < _; omega))
        (fun g' => (lv_cell c (cCred g) n).le.trans_lt (by have := hb g'; show 4 * n + 4 < _; omega)))
      iexact Hr
    iexact Hat
  iintro %S ⟨%hS, HO, Hat, Hp⟩
  have hd : (ringRd (F := F) m ρ).duties (cell c (cCred g)) 0 = Finset.range 13 := duties_eq m ρ c (cCred g) 0
  have he : (ringRd (F := F) m ρ).expect (cell c (cCred g)) 0 = 13 := (expect_eq m ρ c (cCred g) 0).trans rfl
  obtain ⟨hTS, hSd, hm⟩ : T ⊆ S ∧ S ⊆ Finset.range 13 ∧ n + 1 + (Finset.range 13 \ S).card ≤ 13 := by
    rw [← hd]; exact ⟨hS.1, hS.2.1, he ▸ hS.2.2⟩
  have hc : n + 1 ≤ S.card := by
    rw [Finset.card_sdiff_of_subset hSd, Finset.card_range] at hm
    have := Finset.card_le_card hSd
    rw [Finset.card_range] at this
    omega
  ihave #Hp' := (show (bigSep (S \ T) fun d => (ringRd m ρ).payload ((c : Thread nD τ), SemLoc.reg (credAt cc0_scratch3 g)) 0 d)
      ⊢ (bigSep (S \ T) fun j => heard (nxt g c) g (j + 1)) from
    Entails.of_eq (bigSep_congr (s := S \ T) fun d _ => payload_eq m ρ c (cCred g) 0 d)) $$ Hp
  ihave #Hs := (show iprop((bigSep T fun j => heard (nxt g c) g (j + 1)) ∗ (bigSep (S \ T) fun j => heard (nxt g c) g (j + 1)))
      ⊢ (bigSep S fun j => (heard (nxt g c) g (j + 1) : sProp 𝕄)) from Entails.of_eq (bigSep_sdiff_split hTS).symm) $$ []
  · isplitr <;> iassumption
  ihave #Hrel := (heard_released hc (nxt g c) g) $$ Hs
  imod (Release.slot_take ES (Set.mem_univ (J (nxt g c, g, n))) 1) $$ [Hw] with Hput
  · isplitr; · iapply (recs_slot m ρ K J (nxt g c) g hn); iexact Hr
    isplitr; · iexact Hrel
    iexact Hw
  rw [wp_ret]; imodintro
  iapply HK
  isplitl [Hat]
  · iexists S
    isplitr; · ipureintro; exact ⟨hSd, hc⟩
    isplitl [Hat]; · iexact Hat
    iexact Hs
  isplitl [Hput]; · iexact Hput
  iexists _; iexact HO

/-- Two copies of what is put back under one key cannot be. -/
theorem putBack_excl (x : Key) : iprop(putBack (F := F) x ∗ putBack x) ⊢ (False : sProp 𝕄) := by
  refine BIBase.Entails.trans ?_ (Release.slot_slot_false (ℓ := (slot cM x.2.1 (sl x.2.2)).view.loc (x.1 : Thread nD τ))
    (I := (slot cM x.2.1 (sl x.2.2)).view.set) (View.set_nonempty (by decide)))
  unfold putBack someSlot slotPts Release.slot
  iintro ⟨⟨H, -⟩, H', -⟩
  isplitl [H] <;> iassumption

/-- A slot put back and a credit granted to the previous device, with the news of all the ring's slots put back so far. -/
theorem grant_credit {i : ℕ} (hi : i < 13) {O O' : CellTallies nD τ sig ℕ} (hO : O = O' + tallyAt (cell (prv g c) (cCred g)) i 1)
    {Q : PUnit → sProp 𝕄} :
    iprop(recs m ρ K J ∗ putBack (c, g, i) ∗ heard c g i ∗ give c g i ∗ owing c O)
      ⊢ iprop(((heard c g (i + 1) ∗ owing c O') -∗ Q ⟨⟩) -∗ runs c (semSignalWord (prv g c) (credAt cc0_scratch3 g) 1#32) Q) := by
  have hp : (ringRd (F := F) m ρ).payload (cell (prv g c) (cCred g)) 0 i = heard c g (i + 1) := by
    rw [payload_eq]
    show heard (nxt g (prv g c)) g (i + 1) = _
    rw [nxt_prv]
  have hh : (heard c g (i + 1) : sProp 𝕄) = iprop(released ES (c, g, i) 1 ∗ heard c g i) := bigSep_range_succ i _
  unfold give owing semSignalWord
  iintro ⟨#Hr, Hput, #Hh, ⟨Hra, Ht⟩, %W, HO⟩ HK
  imod (Release.slot_release ES (Set.mem_univ (J (c, g, i))) (putBack_excl (c, g, i)) 0) $$ [Hra Hput] with ⟨-, #Hrel⟩
  · isplitr; · iapply (recs_slot m ρ K J c g hi); iexact Hr
    isplitl [Hra]; · iexact Hra
    iexact Hput
  ihave #Hall := (Entails.of_eq hh.symm) $$ []
  · isplitr <;> iassumption
  iapply (Rounds.wp_signal 𝒱₀ ER (ringRd m ρ) (c : Thread nD τ) none (dst := (prv g c : Thread nD τ)) (κ := K (prv g c, cCred g))
      (r := 0) (d := i)
      (show i ∈ (ringRd (F := F) m ρ).duties (cell (prv g c) (cCred g)) 0 by rw [duties_eq]; exact Finset.mem_range.mpr hi)
      ((amount_eq m ρ (prv g c) (cCred g) 0 i).trans rfl) i O' hO) $$ [HO Ht]
  · isplitr; · iapply (recs_cell m ρ K J (prv g c) (cCred g)); iexact Hr
    isplitl [HO]; · iexact HO
    isplitl [Ht]; · iexact Ht
    isplitr
    · iapply (show heard c g (i + 1) ⊢ (ringRd m ρ).payload ((prv g c : Thread nD τ), SemLoc.reg (credAt cc0_scratch3 g)) 0 i from
        Entails.of_eq hp.symm)
      iexact Hall
    iapply (recs_first m ρ K J (prv g c) (cCred g)); iexact Hr
  iintro HO
  rw [wp_ret]; imodintro
  iapply HK
  isplitr; · iexact Hall
  iexists W; iexact HO

/-! ## Slots, products, the result -/

/-- Device `c`'s two staged factors. -/
def factors (c : Dev nD) : sProp 𝕄 :=
  iprop((((c : Thread nD τ).loc cc0_stg0_0) ↦{fullShare} xstg m ρ c) ∗ (((c : Thread nD τ).loc cc0_stg1_0) ↦{fullShare} wstg m ρ c))

/-- A product is of the rows and columns the factors hold. -/
theorem run_product (off : Fin 2 → ℕ) (h : Inb off) {Q : FVec F S512x512 .f32 → sProp 𝕄} :
    factors m ρ c ⊢ iprop((factors m ρ c -∗ Q (prodAt m ρ c g off h)) -∗ runs c (product xM wM off h g) Q) := by
  unfold factors product
  simp only [Prog.lift, Prog.bind_op, Prog.bind_ret, Prog.pure_eq_ret]
  iintro ⟨Hx, Hw⟩ HK
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [wp_ret]; imodintro
  unfold prodAt rows cols
  iapply HK
  isplitl [Hx] <;> iassumption

/-- A slot's elements are those of its rectangle of the communication buffer. -/
theorem slot_set (g : Fin 8) (s : Fin 3) : (slot cM g s).view.set = (cM.access (slotRect g s)).set := View.set_reshape _ _

/-- A slot read gives what it holds. -/
theorem run_readSlot {s : Fin 3} {v : FVec F S512x512 .f32} {Q : Vec F S1x1x512x512 .f32 → sProp 𝕄} :
    slotIs c g s v ⊢ iprop((∀ a, ⌜shapeCast S512x512 a shapeCasts_S1x1x512x512_S512x512 = v⌝ -∗ slotIs c g s v -∗ Q a)
      -∗ runs c (readSlot cM g s) Q) := by
  unfold slotIs slotPts readSlot Prog.lift
  iintro ⟨%f, %hf, H⟩ HK
  iapply (wp_load_rect 𝒱₀ (c : Thread nD τ) none Set.univ (m := cM) (r := slotRect g s) (by rw [← slot_set])) $$ H; iintro H
  rw [wp_ret]; imodintro
  iapply HK $$ %((cM.access (slotRect g s)).read (Elt F) f)
  · ipureintro; exact hf
  iexists f
  isplitr; · ipureintro; exact hf
  iexact H

/-- A slot stored a block holds it. -/
theorem run_putSlot {s : Fin 3} (v : FVec F S512x512 .f32) {Q : PUnit → sProp 𝕄} :
    someSlot c g s ⊢ iprop((slotIs c g s v -∗ Q ⟨⟩) -∗ runs c (putSlot cM g s v) Q) := by
  unfold someSlot slotIs slotPts putSlot readSlot
  simp only [Prog.lift, Prog.bind_op, Prog.bind_ret, Prog.pure_eq_ret]
  iintro ⟨%f, H⟩ HK
  iapply (wp_load_rect 𝒱₀ (c : Thread nD τ) none Set.univ (m := cM) (r := slotRect g s) (by rw [← slot_set])) $$ H; iintro H
  iapply (wp_store 𝒱₀ (c : Thread nD τ) none Set.univ (m := cM) (r := slotRect g s) (Mk := Finset.univ) (by rw [slot_set]; exact Finset.Subset.refl _)) $$ H
  iintro H
  rw [wp_ret]; imodintro
  iapply HK
  iexists _
  isplitr
  · ipureintro
    show shapeCast S512x512 ((cM.access (slotRect g s)).read (Elt F) ((cM.access (slotRect g s)).write (Elt F) f (toSlot v) Finset.univ)) _ = v
    rw [View.read_write_univ]
    exact shapeCast_shapeCast v _ _
  iexact H

/-- The result of device `c`, in hand at contents `f`. -/
def outPts (c : Dev nD) (f : Buf (Elt F) ((c : Thread nD τ).loc cc0_stg2_0)) : sProp 𝕄 := ((c : Thread nD τ).loc cc0_stg2_0) ↦{fullShare} f

/-- The columns of ring `g` of contents of the result. -/
def outCols (g : Fin 8) (f : (cc0_stg2_0 : Ref sig .tc).ty.Contents (Elt F)) : FVec F S512x512 .f32 := (oM.access (colRect g)).read (Elt F) f

theorem col_disjoint {g g' : Fin 8} (h : g ≠ g') : Disjoint (colRect g).set (colRect g').set := by
  refine Rect.unit_disjoint (1 : Fin 2) ?_
  have h' : g.val ≠ g'.val := fun e => h (Fin.ext e)
  show 512 * g.val + 512 ≤ 512 * g'.val ∨ 512 * g'.val + 512 ≤ 512 * g.val
  omega

/-- A block stored to the columns of ring `g` is there, and the other columns are as before. -/
theorem run_putOut (v : FVec F S512x512 .f32) (f : Buf (Elt F) ((c : Thread nD τ).loc cc0_stg2_0)) {Q : PUnit → sProp 𝕄} :
    outPts c f ⊢ iprop((∀ f', ⌜outCols g f' = v ∧ ∀ g', g' ≠ g → outCols g' f' = outCols g' f⌝ -∗ outPts c f' -∗ Q ⟨⟩)
      -∗ runs c (putOut oM g v) Q) := by
  unfold outPts putOut
  simp only [Prog.lift, Prog.bind_op, Prog.bind_ret, Prog.pure_eq_ret]
  iintro H HK
  iapply (wp_load 𝒱₀ (c : Thread nD τ) none Set.univ (m := oM) (Finset.subset_univ _)) $$ H; iintro H
  iapply (wp_store 𝒱₀ (c : Thread nD τ) none Set.univ (m := oM) (r := colRect g) (Mk := Finset.univ) (Finset.subset_univ _)) $$ H; iintro H
  rw [wp_ret]; imodintro
  iapply HK $$ %((oM.access (colRect g)).write (Elt F) f v Finset.univ)
  · ipureintro
    refine ⟨View.read_write_univ _ _, fun g' hg => View.read_slice_write_slice_of_disjoint _ _ _ _ _ ?_⟩
    rw [View.setOn_univ, View.set_slice, View.set_slice]
    exact (Finset.disjoint_map _).mpr (col_disjoint hg)
  iexact H

end Cert.KernelIdeal.Ring

end
-- ==== Proof.Hop.lean ====
module

public import proofs.«01_k».proof.Proof.Moves

@[expose] public section

noncomputable section

/-! A ring between its hops, the three loops over the rings, and a hop. -/

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots initSlots readerAt released writeTok slotInv)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Cell → ℕ) (J : Key → ℕ)

/-! ## A ring between its hops -/

section State
variable (c : Dev nD) (g : Fin 8)

/-- The positions of a ring's three send cells once `s` hops have been sent and waited for; -/
def sndAll (s : ℕ) : sProp 𝕄 := iprop(sndPos c g s ∗ sndPos c g (s + 1) ∗ sndPos c g (s + 2))
/-- of its receive cells once `r` have been received. -/
def rcvAll (r : ℕ) : sProp 𝕄 := iprop(rcvPos c g r ∗ rcvPos c g (r + 1) ∗ rcvPos c g (r + 2))

/-- What receiving uses up once `r` hops have been received: the arrivals, the rights to send on, the slots to be taken. -/
def incoming (r : ℕ) : sProp 𝕄 :=
  iprop(bigSep (Finset.Ico r 15) (arrival c g) ∗ bigSep (Finset.Ico (r + 1) 15) (hopTok c g)
    ∗ bigSep (Finset.Ico (r - 1) 13) (take c g) ∗ credSt c g (min (r - 1) 13))
/-- What waiting for the sent uses up or brings once `s` hops have been: the slots to be put back, the news of those put
    back, the slots kept. -/
def outgoing (s : ℕ) : sProp 𝕄 :=
  iprop(bigSep (Finset.Ico s 13) (give c g) ∗ heard c g (min s 13) ∗ bigSep (Finset.Ico 13 s) fun i => someSlot c g (sl i))
/-- The next device's slot 2 is in hand until the first hop has been received; -/
def early (r : ℕ) : sProp 𝕄 := if r = 0 then someSlot (nxt g c) g 2 else iprop(emp)
/-- the slot of the last arrival once it has been. -/
def late (r : ℕ) : sProp 𝕄 := if r = 15 then someSlot c g (sl 15) else iprop(emp)

/-- A ring once `r` hops have been received and `s` sent and waited for. -/
def ringSt (r s : ℕ) : sProp 𝕄 :=
  iprop(bigSep (Finset.Ico s (min (r + 1) 15)) (flight c g) ∗ early c g r ∗ late c g r
    ∗ sndAll c g s ∗ rcvAll c g r ∗ incoming c g r ∗ outgoing c g s)

/-- A ring before its seed. -/
def seedSt : sProp 𝕄 :=
  iprop(someSlot c g (sl 0) ∗ someSlot (nxt g c) g (sl 1) ∗ someSlot (nxt g c) g 2 ∗ hopTok c g 0
    ∗ sndAll c g 0 ∗ rcvAll c g 0 ∗ incoming c g 0 ∗ outgoing c g 0)

end State

/-- The result of device `c`, the columns of the rings in `d` done. -/
def outSt (c : Dev nD) (d : Fin 8 → Prop) : sProp 𝕄 :=
  iprop(∃ f, ⌜∀ g, d g → outCols g f = relu (acc m ρ g 15 c)⌝ ∗ outPts c f)

/-! ## Counting along a list of rings -/

/-- `k` for the rings still to come and `k + 1` for those done. -/
def from' (k : ℕ) (gs : List (Fin 8)) (g : Fin 8) : ℕ := if g ∈ gs then k else k + 1

theorem le_from (k : ℕ) (gs : List (Fin 8)) (g : Fin 8) : k ≤ from' k gs g := by
  unfold from'; split <;> omega
theorem from_nil (k : ℕ) : from' k [] = fun _ => k + 1 := funext fun g => if_neg (List.not_mem_nil)
theorem mem_order (g : Fin 8) : g ∈ order := by revert g; decide
theorem from_order (k : ℕ) : from' k order = fun _ => k := funext fun g => if_pos (mem_order g)
theorem from_head (k : ℕ) (g : Fin 8) (gs : List (Fin 8)) : from' k (g :: gs) g = k := if_pos List.mem_cons_self
theorem from_done (k : ℕ) {g : Fin 8} {gs : List (Fin 8)} (h : g ∉ gs) : from' k gs g = k + 1 := if_neg h
theorem from_other (k : ℕ) {g g' : Fin 8} (gs : List (Fin 8)) (h : g' ≠ g) : from' k (g :: gs) g' = from' k gs g' := by
  unfold from'; simp only [List.mem_cons, h, false_or]

theorem owed_sent (c : Dev nD) {k : ℕ} (hk : k < 15) (b : Fin 8 → ℕ) {g : Fin 8} {gs : List (Fin 8)} (h : g ∉ gs) :
    owed c (from' k (g :: gs)) b = owed c (from' k gs) b + tallyAt (cell (nxt g c) (cRecv g (sl (k + 1)))) k N :=
  owed_step g _ (fun g' hg => by rw [from_other k gs hg]) (by rw [from_head, from_done k h]; exact ringOwed_send c g _ hk)
theorem owed_granted (c : Dev nD) {k : ℕ} (hk : k < 13) (a : Fin 8 → ℕ) {g : Fin 8} {gs : List (Fin 8)} (h : g ∉ gs) :
    owed c a (from' k (g :: gs)) = owed c a (from' k gs) + tallyAt (cell (prv g c) (cCred g)) k 1 :=
  owed_step g _ (fun g' hg => by rw [from_other k gs hg]) (by rw [from_head, from_done k h]; exact ringOwed_grant c g _ hk)
theorem owed_not_sent (c : Dev nD) {k : ℕ} (hk : 15 ≤ k) (b : Fin 8 → ℕ) {g : Fin 8} {gs : List (Fin 8)} (h : g ∉ gs) :
    owed c (from' k (g :: gs)) b = owed c (from' k gs) b :=
  (owed_step g 0 (fun g' hg => by rw [from_other k gs hg])
    (by rw [from_head, from_done k h, add_zero]; exact ringOwed_sent c g _ hk (by omega))).trans (add_zero _)
theorem owed_not_granted (c : Dev nD) {k : ℕ} (hk : 13 ≤ k) (a : Fin 8 → ℕ) {g : Fin 8} {gs : List (Fin 8)} (h : g ∉ gs) :
    owed c a (from' k (g :: gs)) = owed c a (from' k gs) :=
  (owed_step g 0 (fun g' hg => by rw [from_other k gs hg])
    (by rw [from_head, from_done k h, add_zero]; exact ringOwed_granted c g _ hk (by omega))).trans (add_zero _)

/-! ## The loops -/

/-- One program after another; -/
theorem runs_bind {α β : Type} (c : Dev nD) (p : Prog (TpuEff nD τ sig (Elt F) Λ₀ .tc) α) (k : α → Prog (TpuEff nD τ sig (Elt F) Λ₀ .tc) β)
    (Q : β → sProp 𝕄) : runs c (p >>= k) Q = runs c p fun a => runs c (k a) Q := by
  unfold runs; exact wp_bind ..
/-- the end of one. -/
theorem runs_ret {α : Type} (c : Dev nD) (a : α) (Q : α → sProp 𝕄) : Q a ⊢ runs c (Prog.ret a) Q := by
  unfold runs
  rw [wp_ret]
  iintro H
  imodintro
  iexact H

/-- A loop over rings, by its step: each ring goes from `I` to `I'`, what they share along `St`. -/
theorem run_rings {c : Dev nD} {f : Fin 8 → Prog (TpuEff nD τ sig (Elt F) Λ₀ .tc) PUnit} (R : sProp 𝕄) [BI.Persistent R]
    (I I' : Fin 8 → sProp 𝕄) (St : List (Fin 8) → sProp 𝕄)
    (step : ∀ g gs, g ∉ gs → ∀ Q : PUnit → sProp 𝕄, iprop(R ∗ I g ∗ St (g :: gs)) ⊢ iprop(((I' g ∗ St gs) -∗ Q ⟨⟩) -∗ runs c (f g) Q)) :
    ∀ l : List (Fin 8), l.Nodup → ∀ Q : PUnit → sProp 𝕄,
      iprop(R ∗ bigSep l.toFinset I ∗ St l) ⊢ iprop(((bigSep l.toFinset I' ∗ St []) -∗ Q ⟨⟩) -∗ runs c (forRings f l) Q)
  | [], _, Q => by
    unfold forRings
    have hE (I : Fin 8 → sProp 𝕄) : bigSep ([] : List (Fin 8)).toFinset I = iprop(emp) := bigSep_empty
    rw [Prog.pure_eq_ret, hE, hE]
    iintro ⟨#Hr, HI, HS⟩ HK
    iapply (runs_ret c _ _)
    iapply HK
    isplitr; · iempintro
    iexact HS
  | g :: gs, hl, Q => by
    have hg : g ∉ gs := (List.nodup_cons.mp hl).1
    have hn : g ∉ gs.toFinset := fun h => hg (List.mem_toFinset.mp h)
    have hI (I : Fin 8 → sProp 𝕄) : bigSep (g :: gs).toFinset I = iprop(I g ∗ bigSep gs.toFinset I) := by
      rw [List.toFinset_cons, bigSep_insert hn]; rfl
    rw [hI, hI]
    unfold forRings
    iintro ⟨#Hr, ⟨HI, HIs⟩, HS⟩ HK
    rw [runs_bind]
    iapply (step g gs hg _) $$ [HI HS]
    · isplitr; · iexact Hr
      isplitl [HI] <;> iassumption
    iintro ⟨HI', HS⟩
    iapply (run_rings R I I' St step gs (List.nodup_cons.mp hl).2 Q) $$ [HIs HS]
    · isplitr; · iexact Hr
      isplitl [HIs] <;> iassumption
    iintro ⟨HIs', HS⟩
    iapply HK
    isplitl [HI' HIs']
    · isplitl [HI'] <;> iassumption
    iexact HS

/-- The same loop over all the rings. -/
theorem run_order {c : Dev nD} {f : Fin 8 → Prog (TpuEff nD τ sig (Elt F) Λ₀ .tc) PUnit} (R : sProp 𝕄) [BI.Persistent R]
    (I I' : Fin 8 → sProp 𝕄) (St : List (Fin 8) → sProp 𝕄)
    (step : ∀ g gs, g ∉ gs → ∀ Q : PUnit → sProp 𝕄, iprop(R ∗ I g ∗ St (g :: gs)) ⊢ iprop(((I' g ∗ St gs) -∗ Q ⟨⟩) -∗ runs c (f g) Q))
    (Q : PUnit → sProp 𝕄) :
    iprop(R ∗ bigSep Finset.univ I ∗ St order) ⊢ iprop(((bigSep Finset.univ I' ∗ St []) -∗ Q ⟨⟩) -∗ runs c (forRings f order) Q) := by
  rw [order_univ]; exact run_rings R I I' St step order order_nodup Q

/-- A loop that computes a value for each ring. -/
theorem run_gather {c : Dev nD} {f : Fin 8 → Prog (TpuEff nD τ sig (Elt F) Λ₀ .tc) (FVec F S512x512 .f32)} (R : sProp 𝕄)
    (V : Fin 8 → FVec F S512x512 .f32)
    (step : ∀ g, ∀ Q : FVec F S512x512 .f32 → sProp 𝕄, R ⊢ iprop((R -∗ Q (V g)) -∗ runs c (f g) Q)) :
    ∀ (l : List (Fin 8)) (p : Fin 8 → FVec F S512x512 .f32) (Q : (Fin 8 → FVec F S512x512 .f32) → sProp 𝕄),
      R ⊢ iprop((R -∗ Q (fun g => if g ∈ l then V g else p g)) -∗ runs c (gather f l p) Q)
  | [], p, Q => by
    unfold gather
    rw [Prog.pure_eq_ret]
    iintro HR HK
    iapply (runs_ret c _ _)
    simp only [List.not_mem_nil, if_false]
    iapply HK; iexact HR
  | g :: gs, p, Q => by
    unfold gather
    iintro HR HK
    rw [runs_bind]
    iapply (step g _) $$ HR
    iintro HR
    iapply (run_gather R V step gs _ Q) $$ HR
    iintro HR
    rw [show (fun g' => if g' ∈ gs then V g' else bif Nat.beq g'.val g.val then V g else p g') = (fun g' => if g' ∈ g :: gs then V g' else p g') from
      funext fun g' => by
        by_cases h : g' ∈ gs
        · rw [if_pos h, if_pos (List.mem_cons_of_mem _ h)]
        · rw [if_neg h]
          by_cases he : g' = g
          · subst he
            rw [if_pos List.mem_cons_self, Nat.beq_refl]; rfl
          · rw [if_neg (fun hm => (List.mem_cons.mp hm).elim he h)]
            rw [show Nat.beq g'.val g.val = false from by
              rw [← Bool.not_eq_true]; exact fun hb => he (Fin.ext (Nat.eq_of_beq_eq_true hb))]
            rfl]
    iapply HK; iexact HR

/-! ## Seeds -/

theorem run_seed (c : Dev nD) (g : Fin 8) (gs : List (Fin 8)) (hg : g ∉ gs) (Q : PUnit → sProp 𝕄) :
    iprop(recs m ρ K J ∗ seedSt c g ∗ (factors m ρ c ∗ owing c (owed c (from' 0 (g :: gs)) fun _ => 0)))
      ⊢ iprop(((ringSt c g 0 0 ∗ (factors m ρ c ∗ owing c (owed c (from' 0 gs) fun _ => 0))) -∗ Q ⟨⟩)
          -∗ runs c (seed xM wM cM cc0_scratch1 cc0_scratch2 c g) Q) := by
  have hf : (bigSep (Finset.Ico 0 (min (0 + 1) 15)) (flight c g) : sProp 𝕄) = flight c g 0 := by
    rw [show Finset.Ico 0 (min (0 + 1) 15) = {0} from by decide, bigSep_singleton]
  unfold seedSt ringSt early late seed
  rw [hf, if_pos rfl, if_neg (by decide)]
  iintro ⟨#Hr, ⟨H0, H1, H2, Ht, Hrest⟩, Hf, HO⟩ HK
  rw [runs_bind]
  iapply (run_product m ρ (seedOff g c) (seed_inb g c)) $$ Hf
  iintro Hf
  rw [runs_bind]
  iapply (run_putSlot (prodAt m ρ c g (seedOff g c) (seed_inb g c))) $$ H0
  iintro H0
  iapply (start_hop m ρ K J (h := 0) (by decide) (owed_sent c (by decide) _ hg)) $$ [H0 H1 Ht HO]
  · isplitr; · iexact Hr
    isplitl [H0]; · iexact H0
    isplitl [H1]; · iexact H1
    isplitl [Ht]; · iexact Ht
    isplitr; · iapply (recs_first m ρ K J c (cSend g (sl 0))); iexact Hr
    isplitr; · iapply (recs_first m ρ K J (nxt g c) (cRecv g (sl (0 + 1)))); iexact Hr
    iexact HO
  iintro ⟨Hfl, HO⟩
  iapply HK
  isplitl [Hfl H2 Hrest]
  · isplitl [Hfl]; · iexact Hfl
    isplitl [H2]; · iexact H2
    isplitr; · iempintro
    iexact Hrest
  isplitl [Hf] <;> iassumption

/-! ## Receiving -/

section Receive
variable {c : Dev nD} {g : Fin 8} {k : ℕ}

/-- The next device's slot for hop `k + 1` had: at the first hop it is in hand, later it is taken against a credit. -/
theorem run_claim (hk : k < 14) {a b : Fin 8 → ℕ} (ha : ∀ g, k + 1 ≤ a g) (hb : ∀ g, k ≤ b g) (Q : PUnit → sProp 𝕄) :
    iprop(recs m ρ K J ∗ early c g k ∗ bigSep (Finset.Ico (k - 1) 13) (take c g) ∗ credSt c g (min (k - 1) 13) ∗ owing c (owed c a b))
      ⊢ iprop(((someSlot (nxt g c) g (sl (k + 1 + 1)) ∗ reached ER (cell (nxt g c) (cRecv g (sl (k + 1 + 1)))) ((k + 1) / 3)
            ∗ bigSep (Finset.Ico k 13) (take c g) ∗ credSt c g (min k 13) ∗ owing c (owed c a b)) -∗ Q ⟨⟩)
          -∗ runs c (bif Nat.blt 0 k then semWaitWord (credAt cc0_scratch3 g) 1#32 else pure ⟨⟩) Q) := by
  cases k with
  | zero =>
    unfold early
    rw [if_pos rfl, Prog.pure_eq_ret]
    iintro ⟨#Hr, He, Ht, Hc, HO⟩ HK
    iapply (runs_ret c _ _)
    iapply HK
    isplitl [He]; · iexact He
    isplitr; · iapply (recs_first m ρ K J (nxt g c) (cRecv g (sl (0 + 1 + 1)))); iexact Hr
    isplitl [Ht]; · iexact Ht
    isplitl [Hc]; · iexact Hc
    iexact HO
  | succ n =>
    have hT : bigSep (Finset.Ico n 13) (take (F := F) c g) = iprop(take c g n ∗ bigSep (Finset.Ico (n + 1) 13) (take c g)) :=
      bigSep_Ico_succ_bot (by omega) _
    rw [show n + 1 - 1 = n from rfl, hT, Nat.min_eq_left (show n ≤ 13 by omega), Nat.min_eq_left (show n + 1 ≤ 13 by omega),
      show n + 1 + 1 + 1 = n + 3 from rfl]
    show _ ⊢ iprop(_ -∗ runs c (semWaitWord (credAt cc0_scratch3 g) 1#32) Q)
    iintro ⟨#Hr, -, ⟨Ht, Hts⟩, Hc, HO⟩ HK
    iapply (take_credit m ρ K J (a := a) (b := b) (by omega : n < 13) (fun g => by have := ha g; omega) (fun g => by have := hb g; omega)) $$ [Ht Hc HO]
    · isplitr; · iexact Hr
      isplitl [Hc]; · iexact Hc
      isplitl [Ht]; · iexact Ht
      iexact HO
    unfold putBack
    iintro ⟨Hc, ⟨Hs, #Hre⟩, HO⟩
    iapply HK
    isplitl [Hs]; · rw [sl_add_three]; iexact Hs
    isplitr; · iexact Hre
    isplitl [Hts]; · iexact Hts
    isplitl [Hc]; · iexact Hc
    iexact HO

/-- Which rings' results are done in the loop of hop `k`. -/
def doneIn (k : ℕ) (gs : List (Fin 8)) (g : Fin 8) : Prop := k = 14 ∧ g ∉ gs

/-- What the rings share while hop `k` is received. -/
def rcvShared (c : Dev nD) (k : ℕ) (gs : List (Fin 8)) : sProp 𝕄 :=
  iprop(outSt m ρ c (doneIn k gs) ∗ owing c (owed c (from' (k + 1) gs) fun _ => k))

/-- The copy of hop `k` awaited and read: with this device's product added the partial sum is one further. -/
theorem run_heard (hk : k < 15) {a b : Fin 8 → ℕ} (ha : ∀ g, k + 1 ≤ a g) (hb : ∀ g, k ≤ b g)
    (R : Vec F S1x1x512x512 .f32 → Prog (TpuEff nD τ sig (Elt F) Λ₀ .tc) PUnit) (Q : PUnit → sProp 𝕄) :
    iprop(recs m ρ K J ∗ arrival c g k ∗ rcvPos c g k ∗ owing c (owed c a b))
      ⊢ iprop((∀ v, ⌜plus v (addend m ρ g k c) = acc m ρ g (k + 1) c⌝ -∗ slotIs c g (sl (k + 1)) (acc m ρ g k (prv g c)) -∗ rcvPos c g (k + 3)
            -∗ owing c (owed c a b) -∗ runs c (R v) Q)
          -∗ runs c (waitRecv cM cc0_scratch2 k g >>= fun _ => readSlot cM g (sl (k + 1)) >>= R) Q) := by
  iintro ⟨#Hr, Har, Hv, HO⟩ HK
  rw [runs_bind]
  iapply (wait_recv m ρ K J hk ha hb) $$ [Har Hv HO]
  · isplitr; · iexact Hr
    isplitl [Har]; · iexact Har
    isplitl [Hv]; · iexact Hv
    iexact HO
  iintro ⟨Hs, Hv, HO⟩
  rw [runs_bind]
  iapply (run_readSlot (c := c)) $$ Hs
  iintro %v %hv Hs
  iapply HK $$ %v [] Hs Hv HO
  ipureintro
  unfold plus
  rw [hv]
  rfl

/-- A slot's new partial sum put and sent on. -/
theorem run_forward (hk : k < 14) {a b a' : Fin 8 → ℕ} (ha : ∀ g, k + 1 ≤ a g) (hb : ∀ g, k ≤ b g)
    (hO : owed c a b = owed c a' b + tallyAt (cell (nxt g c) (cRecv g (sl (k + 1 + 1)))) (k + 1) N) (Q : PUnit → sProp 𝕄) :
    iprop(recs m ρ K J ∗ someSlot c g (sl (k + 1)) ∗ early c g k ∗ bigSep (Finset.Ico (k - 1) 13) (take c g) ∗ credSt c g (min (k - 1) 13)
        ∗ hopTok c g (k + 1) ∗ reached ER (cell c (cSend g (sl (k + 1)))) ((k + 1) / 3) ∗ owing c (owed c a b))
      ⊢ iprop(((flight c g (k + 1) ∗ bigSep (Finset.Ico k 13) (take c g) ∗ credSt c g (min k 13) ∗ owing c (owed c a' b)) -∗ Q ⟨⟩)
          -∗ runs c (putSlot cM g (sl (k + 1)) (acc m ρ g (k + 1) c) >>= fun _ =>
              (bif Nat.blt 0 k then semWaitWord (credAt cc0_scratch3 g) 1#32 else pure ⟨⟩) >>= fun _ =>
              startHop cM cc0_scratch1 cc0_scratch2 c (k + 1) g) Q) := by
  iintro ⟨#Hr, Hs, He, Htk, Hcr, Ht, #Hsr, HO⟩ HK
  rw [runs_bind]
  iapply (run_putSlot (c := c) (acc m ρ g (k + 1) c)) $$ Hs
  iintro Hs
  rw [runs_bind]
  iapply (run_claim m ρ K J hk ha hb _) $$ [He Htk Hcr HO]
  · isplitr; · iexact Hr
    isplitl [He]; · iexact He
    isplitl [Htk]; · iexact Htk
    isplitl [Hcr]; · iexact Hcr
    iexact HO
  iintro ⟨Hn, #Hre, Htk, Hcr, HO⟩
  iapply (start_hop m ρ K J (show k + 1 < 15 by omega) hO) $$ [Hs Hn Ht HO]
  · isplitr; · iexact Hr
    isplitl [Hs]; · iexact Hs
    isplitl [Hn]; · iexact Hn
    isplitl [Ht]; · iexact Ht
    isplitr; · iexact Hsr
    isplitr; · iexact Hre
    iexact HO
  iintro ⟨Hf, HO⟩
  iapply HK
  isplitl [Hf]; · iexact Hf
  isplitl [Htk]; · iexact Htk
  isplitl [Hcr]; · iexact Hcr
  iexact HO

/-- Hop `k` received in one ring. -/
theorem run_receive (hk : k < 15) (p : Fin 8 → FVec F S512x512 .f32) (hp : ∀ g, p g = addend m ρ g k c) (gs : List (Fin 8)) (hg : g ∉ gs)
    (Q : PUnit → sProp 𝕄) :
    iprop(recs m ρ K J ∗ ringSt c g k k ∗ rcvShared m ρ c k (g :: gs))
      ⊢ iprop(((ringSt c g (k + 1) k ∗ rcvShared m ρ c k gs) -∗ Q ⟨⟩)
          -∗ runs c (receive oM cM cc0_scratch1 cc0_scratch2 cc0_scratch3 c k p g) Q) := by
  have hA : bigSep (Finset.Ico k 15) (arrival (F := F) c g) = iprop(arrival c g k ∗ bigSep (Finset.Ico (k + 1) 15) (arrival c g)) :=
    bigSep_Ico_succ_bot hk _
  unfold receive ringSt rcvAll incoming rcvShared
  rw [hA, hp g]
  by_cases h14 : k < 14
  · have hT : bigSep (Finset.Ico (k + 1) 15) (hopTok (F := F) c g) = iprop(hopTok c g (k + 1) ∗ bigSep (Finset.Ico (k + 1 + 1) 15) (hopTok c g)) :=
      bigSep_Ico_succ_bot (by omega) _
    have hF : bigSep (Finset.Ico k (k + 1 + 1)) (flight (F := F) c g) = iprop(flight c g (k + 1) ∗ bigSep (Finset.Ico k (k + 1)) (flight c g)) :=
      bigSep_Ico_succ_top (by omega) _
    have hL : (late c g (k + 1) : sProp 𝕄) = iprop(emp) := if_neg (by omega)
    have hE : (early c g (k + 1) : sProp 𝕄) = iprop(emp) := if_neg (by omega)
    have hD : outSt m ρ c (doneIn k (g :: gs)) ⊢ (outSt m ρ c (doneIn k gs) : sProp 𝕄) := by
      unfold outSt
      iintro ⟨%f, -, H⟩
      iexists f
      isplitr; · ipureintro; exact fun g h => absurd h.1 (by omega)
      iexact H
    rw [hT, Nat.min_eq_left (show k + 1 ≤ 15 by omega), Nat.min_eq_left (show k + 1 + 1 ≤ 15 by omega), hF, hL, hE,
      show Nat.blt k 14 = true from Nat.ble_eq_true_of_le h14]
    unfold sndAll
    unfold sndPos
    iintro ⟨#Hr, ⟨Hfl, He, -, ⟨Hs0, ⟨Hs1, #Hsr⟩, Hs2⟩, ⟨Hv, Hv1, Hv2⟩, ⟨⟨Har, Hars⟩, ⟨Ht, Hts⟩, Htk, Hcr⟩, Hog⟩, Hout, HO⟩ HK
    iapply (run_heard m ρ K J hk (fun g' => le_from (k + 1) (g :: gs) g') (fun _ => Nat.le_refl k) _ Q) $$ [Har Hv HO]
    · isplitr; · iexact Hr
      isplitl [Har]; · iexact Har
      isplitl [Hv]; · iexact Hv
      iexact HO
    iintro %v %hv Hs Hv3 HO
    rw [hv]
    iapply (run_forward m ρ K J h14 (fun g' => le_from (k + 1) (g :: gs) g') (fun _ => Nat.le_refl k) (owed_sent c (by omega) _ hg) Q)
        $$ [Hs He Htk Hcr Ht HO]
    · isplitr; · iexact Hr
      isplitl [Hs]; · iapply (slotIs_some c g (sl (k + 1)) _); iexact Hs
      isplitl [He]; · iexact He
      isplitl [Htk]; · iexact Htk
      isplitl [Hcr]; · iexact Hcr
      isplitl [Ht]; · iexact Ht
      isplitr; · iexact Hsr
      iexact HO
    iintro ⟨Hf, Htk, Hcr, HO⟩
    iapply HK
    isplitr [Hout HO]
    · isplitl [Hf Hfl]
      · isplitl [Hf]; · iexact Hf
        iexact Hfl
      isplitr; · iempintro
      isplitr; · iempintro
      isplitl [Hs0 Hs1 Hs2]
      · isplitl [Hs0]; · iexact Hs0
        isplitl [Hs1]
        · isplitl [Hs1]; · iexact Hs1
          iexact Hsr
        iexact Hs2
      isplitl [Hv3 Hv1 Hv2]
      · isplitl [Hv1]; · iexact Hv1
        isplitl [Hv2]; · iexact Hv2
        iexact Hv3
      isplitr [Hog]
      · isplitl [Hars]; · iexact Hars
        isplitl [Hts]; · iexact Hts
        isplitl [Htk]; · iexact Htk
        iexact Hcr
      iexact Hog
    isplitl [Hout]; · iapply hD; iexact Hout
    iexact HO
  · have h14' : k = 14 := by omega
    subst h14'
    have hL : (late c g (14 + 1) : sProp 𝕄) = someSlot c g (sl 15) := if_pos rfl
    have hE : (early c g (14 + 1) : sProp 𝕄) = iprop(emp) := if_neg (by omega)
    have hO : owed c (from' (14 + 1) (g :: gs)) (fun _ => 14) = owed c (from' (14 + 1) gs) fun _ => 14 :=
      owed_not_sent c (Nat.le_refl 15) _ hg
    rw [hL, hE, hO, show min (14 + 1) 15 = min (14 + 1 + 1) 15 from rfl, show Finset.Ico (14 + 1) 15 = Finset.Ico (14 + 1 + 1) 15 from rfl,
      show Finset.Ico (14 - 1) 13 = Finset.Ico (14 + 1 - 1) 13 from rfl, show min (14 - 1) 13 = min (14 + 1 - 1) 13 from rfl,
      show Nat.blt 14 14 = false from rfl]
    unfold outSt
    iintro ⟨#Hr, ⟨Hfl, -, -, Hsnd, ⟨Hv, Hv1, Hv2⟩, ⟨⟨Har, Hars⟩, Hts, Htk, Hcr⟩, Hog⟩, ⟨%f, %hf, Hout⟩, HO⟩ HK
    iapply (run_heard m ρ K J hk (fun g' => le_from (14 + 1) gs g') (fun _ => Nat.le_refl 14) _ Q) $$ [Har Hv HO]
    · isplitr; · iexact Hr
      isplitl [Har]; · iexact Har
      isplitl [Hv]; · iexact Hv
      iexact HO
    iintro %v %hv Hs Hv3 HO
    rw [hv]
    iapply (run_putOut (c := c) (g := g) (relu (acc m ρ g (14 + 1) c)) f) $$ Hout
    iintro %f' %hf' Hout
    iapply HK
    isplitr [Hout HO]
    · isplitl [Hfl]; · iexact Hfl
      isplitr; · iempintro
      isplitl [Hs]; · iapply (slotIs_some c g (sl 15) _); iexact Hs
      isplitl [Hsnd]; · iexact Hsnd
      isplitl [Hv3 Hv1 Hv2]
      · isplitl [Hv1]; · iexact Hv1
        isplitl [Hv2]; · iexact Hv2
        iexact Hv3
      isplitr [Hog]
      · isplitl [Hars]; · iexact Hars
        isplitl [Hts]; · iexact Hts
        isplitl [Htk]; · iexact Htk
        iexact Hcr
      iexact Hog
    isplitl [Hout]
    · iexists f'
      isplitr
      · ipureintro
        intro g' h
        by_cases hgg : g' = g
        · rw [hgg]; exact hf'.1
        · rw [hf'.2 g' hgg]
          exact hf g' ⟨rfl, fun hm => (List.mem_cons.mp hm).elim hgg h.2⟩
      iexact Hout
    iexact HO

end Receive

/-! ## Waiting for the sent -/

/-- Hop `k` sent in one ring. -/
theorem run_grant {c : Dev nD} {g : Fin 8} {k : ℕ} (hk : k < 15) (gs : List (Fin 8)) (hg : g ∉ gs) (Q : PUnit → sProp 𝕄) :
    iprop(recs m ρ K J ∗ ringSt c g (k + 1) k ∗ owing c (owed c (fun _ => k + 2) (from' k (g :: gs))))
      ⊢ iprop(((ringSt c g (k + 1) (k + 1) ∗ owing c (owed c (fun _ => k + 2) (from' k gs))) -∗ Q ⟨⟩)
          -∗ runs c (grant cM cc0_scratch1 cc0_scratch3 c k g) Q) := by
  have hF : bigSep (Finset.Ico k (min (k + 1 + 1) 15)) (flight (F := F) c g)
      = iprop(flight c g k ∗ bigSep (Finset.Ico (k + 1) (min (k + 1 + 1) 15)) (flight c g)) :=
    bigSep_Ico_succ_bot (by omega) _
  unfold grant ringSt sndAll rcvAll rcvPos outgoing
  rw [hF]
  by_cases h13 : k < 13
  · have hG : bigSep (Finset.Ico k 13) (give (F := F) c g) = iprop(give c g k ∗ bigSep (Finset.Ico (k + 1) 13) (give c g)) :=
      bigSep_Ico_succ_bot h13 _
    rw [hG, Nat.min_eq_left (show k ≤ 13 by omega), Nat.min_eq_left (show k + 1 ≤ 13 by omega),
      show Finset.Ico 13 k = Finset.Ico 13 (k + 1) by rw [Finset.Ico_eq_empty (by omega), Finset.Ico_eq_empty (by omega)],
      show Nat.blt k 13 = true from Nat.ble_eq_true_of_le h13]
    iintro ⟨#Hr, ⟨⟨Hf, Hfl⟩, He, Hl, ⟨Hs0, Hs1, Hs2⟩, ⟨Hv, ⟨Hv1, #Hvr⟩, Hv2⟩, Hin, ⟨Hg, Hgs⟩, Hh, Hkept⟩, HO⟩ HK
    rw [runs_bind]
    iapply (wait_send m ρ K J hk (fun _ => Nat.le_refl (k + 2)) (fun g' => le_from k (g :: gs) g')) $$ [Hf Hs0 HO]
    · isplitr; · iexact Hr
      isplitl [Hf]; · iexact Hf
      isplitl [Hs0]; · iexact Hs0
      iexact HO
    iintro ⟨Hs, Hs0, HO⟩
    iapply (grant_credit m ρ K J h13 (owed_granted c h13 _ hg)) $$ [Hs Hh Hg HO]
    · isplitr; · iexact Hr
      isplitl [Hs]
      · unfold putBack
        isplitl [Hs]; · iexact Hs
        iexact Hvr
      isplitl [Hh]; · iexact Hh
      isplitl [Hg]; · iexact Hg
      iexact HO
    iintro ⟨Hh, HO⟩
    iapply HK
    isplitr [HO]
    · isplitl [Hfl]; · iexact Hfl
      isplitl [He]; · iexact He
      isplitl [Hl]; · iexact Hl
      isplitl [Hs0 Hs1 Hs2]
      · isplitl [Hs1]; · iexact Hs1
        isplitl [Hs2]; · iexact Hs2
        iexact Hs0
      isplitl [Hv Hv1 Hv2]
      · isplitl [Hv]; · iexact Hv
        isplitl [Hv1]
        · isplitl [Hv1]; · iexact Hv1
          iexact Hvr
        iexact Hv2
      isplitl [Hin]; · iexact Hin
      isplitl [Hgs]; · iexact Hgs
      isplitl [Hh]; · iexact Hh
      iexact Hkept
    iexact HO
  · have hkept : bigSep (Finset.Ico 13 (k + 1)) (fun i => someSlot (F := F) c g (sl i))
        = iprop(someSlot c g (sl k) ∗ bigSep (Finset.Ico 13 k) fun i => someSlot c g (sl i)) :=
      bigSep_Ico_succ_top (by omega) _
    rw [hkept, Nat.min_eq_right (show 13 ≤ k by omega), Nat.min_eq_right (show 13 ≤ k + 1 by omega), owed_not_granted c (by omega) _ hg,
      show Finset.Ico k 13 = Finset.Ico (k + 1) 13 by rw [Finset.Ico_eq_empty (by omega), Finset.Ico_eq_empty (by omega)],
      show Nat.blt k 13 = false from Bool.eq_false_iff.mpr fun h => h13 (Nat.le_of_ble_eq_true h)]
    iintro ⟨#Hr, ⟨⟨Hf, Hfl⟩, He, Hl, ⟨Hs0, Hs1, Hs2⟩, Hv, Hin, Hg, Hh, Hkept⟩, HO⟩ HK
    rw [runs_bind]
    iapply (wait_send m ρ K J hk (fun _ => Nat.le_refl (k + 2)) (fun g' => le_from k gs g')) $$ [Hf Hs0 HO]
    · isplitr; · iexact Hr
      isplitl [Hf]; · iexact Hf
      isplitl [Hs0]; · iexact Hs0
      iexact HO
    iintro ⟨Hs, Hs0, HO⟩
    iapply (runs_ret c _ _)
    iapply HK
    isplitr [HO]
    · isplitl [Hfl]; · iexact Hfl
      isplitl [He]; · iexact He
      isplitl [Hl]; · iexact Hl
      isplitl [Hs0 Hs1 Hs2]
      · isplitl [Hs1]; · iexact Hs1
        isplitl [Hs2]; · iexact Hs2
        iexact Hs0
      isplitl [Hv]; · iexact Hv
      isplitl [Hin]; · iexact Hin
      isplitl [Hg]; · iexact Hg
      isplitl [Hh]; · iexact Hh
      isplitl [Hs]; · iexact Hs
      iexact Hkept
    iexact HO

/-! ## The hops -/

theorem outSt_mono {c : Dev nD} {d d' : Fin 8 → Prop} (h : ∀ g, d' g → d g) : outSt m ρ c d ⊢ outSt m ρ c d' := by
  unfold outSt
  iintro ⟨%f, %hf, H⟩
  iexists f
  isplitr; · ipureintro; exact fun g hg => hf g (h g hg)
  iexact H

/-- A device before hop `k`. -/
def hopSt (c : Dev nD) (k : ℕ) : sProp 𝕄 :=
  iprop(bigSep Finset.univ (fun g => ringSt c g k k) ∗ factors m ρ c ∗ outSt m ρ c (fun _ => k = 15)
    ∗ owing c (owed c (fun _ => k + 1) fun _ => k))

theorem run_products (c : Dev nD) (k : Fin 15) (Q : (Fin 8 → FVec F S512x512 .f32) → sProp 𝕄) :
    factors m ρ c ⊢ iprop((factors m ρ c -∗ Q (fun g => addend m ρ g k.val c)) -∗ runs c (products xM wM c k) Q) := by
  have hV : (fun g => if g ∈ order then addend m ρ g k.val c else constant S512x512 .f32 0x00000000#32) = fun g => addend m ρ g k.val c :=
    funext fun g => if_pos (mem_order g)
  have hA (g : Fin 8) : addend m ρ g k.val c = prodAt m ρ c g (rowOff g k c) (row_inb g k c) :=
    congrArg (fun j : Fin 15 => prodAt m ρ c g (rowOff g j c) (row_inb g j c)) (hopIx_val k)
  have h := run_gather (c := c) (f := fun g => product xM wM (rowOff g k c) (row_inb g k c) g) (factors m ρ c) (fun g => addend m ρ g k.val c)
    (fun g Q => by rw [hA]; exact run_product m ρ (rowOff g k c) (row_inb g k c)) order (fun _ => constant S512x512 .f32 0x00000000#32) Q
  rw [hV] at h
  exact h

/-- A hop. -/
theorem run_hop (c : Dev nD) (k : Fin 15) (Q : PUnit → sProp 𝕄) :
    iprop(recs m ρ K J ∗ hopSt m ρ c k.val) ⊢ iprop((hopSt m ρ c (k.val + 1) -∗ Q ⟨⟩)
      -∗ runs c (hop xM wM oM cM cc0_scratch1 cc0_scratch2 cc0_scratch3 c k) Q) := by
  unfold hop hopSt
  iintro ⟨#Hr, HI, Hf, Hout, HO⟩ HK
  rw [runs_bind]
  iapply (run_products m ρ c k _) $$ Hf
  iintro Hf
  rw [runs_bind]
  iapply (run_order (recs m ρ K J) (fun g => ringSt c g k.val k.val) (fun g => ringSt c g (k.val + 1) k.val) (rcvShared m ρ c k.val)
    (fun g gs hg Q => run_receive m ρ K J k.isLt _ (fun _ => rfl) gs hg Q) _) $$ [HI Hout HO]
  · isplitr; · iexact Hr
    isplitl [HI]; · iexact HI
    unfold rcvShared
    rw [from_order]
    isplitl [Hout]
    · iapply (outSt_mono m ρ (d' := doneIn k.val order) (fun g h => absurd (mem_order g) h.2)); iexact Hout
    iexact HO
  unfold rcvShared
  rw [from_nil]
  iintro ⟨HI, Hout, HO⟩
  iapply (run_order (recs m ρ K J) (fun g => ringSt c g (k.val + 1) k.val) (fun g => ringSt c g (k.val + 1) (k.val + 1))
    (fun gs => owing c (owed c (fun _ => k.val + 2) (from' k.val gs)))
    (fun g gs hg Q => run_grant m ρ K J k.isLt gs hg Q) _) $$ [HI HO]
  · isplitr; · iexact Hr
    isplitl [HI]; · iexact HI
    rw [from_order]
    iexact HO
  rw [from_nil]
  iintro ⟨HI, HO⟩
  iapply HK
  isplitl [HI]; · iexact HI
  isplitl [Hf]; · iexact Hf
  isplitl [Hout]
  · iapply (outSt_mono m ρ (d := doneIn k.val []) (fun g h => ⟨Nat.succ.inj h, List.not_mem_nil⟩)); iexact Hout
  iexact HO

/-- The hops of a list are those from `k` on. -/
def FromOn : ℕ → List (Fin 15) → Prop
  | k, [] => k = 15
  | k, x :: xs => x.val = k ∧ FromOn (k + 1) xs

/-- The hops from `k` on. -/
theorem run_hops (c : Dev nD) (Q : PUnit → sProp 𝕄) : ∀ (l : List (Fin 15)) (k : ℕ), FromOn k l →
    (iprop(recs m ρ K J ∗ hopSt m ρ c k) ⊢ iprop((hopSt m ρ c 15 -∗ Q ⟨⟩)
      -∗ runs c (hops xM wM oM cM cc0_scratch1 cc0_scratch2 cc0_scratch3 c l) Q))
  | [], k, h => by
    obtain rfl : k = 15 := h
    unfold hops
    iintro ⟨-, H⟩ HK
    iapply (runs_ret c _ _)
    iapply HK
    iexact H
  | x :: xs, k, h => by
    obtain ⟨rfl, h⟩ := h
    unfold hops
    iintro ⟨#Hr, H⟩ HK
    rw [runs_bind]
    iapply (run_hop m ρ K J c x _) $$ [H]
    · isplitr; · iexact Hr
      iexact H
    iintro H
    iapply (run_hops c Q xs (x.val + 1) h) $$ [H]
    · isplitr; · iexact Hr
      iexact H
    iexact HK

end Cert.KernelIdeal.Ring

end
-- ==== Proof.Body.lean ====
module

public import proofs.«01_k».proof.Proof.Hop
public import Idealize.ShloMosaic.Lib.Ring

@[expose] public section

noncomputable section

/-! The whole body of a device: neighbours meet, the seeds, the fifteen hops, and what is in hand at the end. -/

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots initSlots readerAt released writeTok slotInv)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Cell → ℕ) (J : Key → ℕ)

/-! ## The communication buffer by its slots -/

/-- The elements of a slot. -/
def slotSet (b : Fin 8 × Fin 3) : Finset S8x3x512x512.Idx := (slotRect b.1 b.2).set

theorem slotSet_eq (g : Fin 8) (s : Fin 3) : (slot cM g s).view.set = slotSet (g, s) :=
  (slot_set g s).trans (View.set_slice_whole _ _)

theorem slotSet_disjoint (b b' : Fin 8 × Fin 3) (h : b ≠ b') : Disjoint (slotSet b) (slotSet b') := by
  obtain ⟨g, s⟩ := b
  obtain ⟨g', s'⟩ := b'
  by_cases hg : g = g'
  · subst hg
    have hs : s.val ≠ s'.val := fun e => h (by rw [Fin.ext e])
    refine Rect.unit_disjoint (1 : Fin 4) ?_
    show s.val + 1 ≤ s'.val ∨ s'.val + 1 ≤ s.val
    omega
  · have hs : g.val ≠ g'.val := fun e => hg (Fin.ext e)
    refine Rect.unit_disjoint (0 : Fin 4) ?_
    show g.val + 1 ≤ g'.val ∨ g'.val + 1 ≤ g.val
    omega

theorem slotSet_cover : Finset.univ.biUnion slotSet = Finset.univ := by
  refine Finset.eq_univ_of_forall fun i => Finset.mem_biUnion.mpr ⟨(i 0, i 1), Finset.mem_univ _, ?_⟩
  refine Rect.mem_set_unit.mpr fun a => ?_
  fin_cases a
  · exact ⟨Nat.le_refl _, Nat.lt_succ_self _⟩
  · exact ⟨Nat.le_refl _, Nat.lt_succ_self _⟩
  · exact ⟨Nat.zero_le _, (i 2).isLt.trans_le (Nat.le_of_eq (Nat.zero_add 512).symm)⟩
  · exact ⟨Nat.zero_le _, (i 3).isLt.trans_le (Nat.le_of_eq (Nat.zero_add 512).symm)⟩

/-- Device `c`'s communication buffer, at any contents; -/
def commSt (c : Dev nD) : sProp 𝕄 :=
  iprop(∃ f : Buf (Elt F) ((c : Thread nD τ).loc cc0_scratch0), ((c : Thread nD τ).loc cc0_scratch0) ↦{fullShare} f)
/-- a ring's three slots of it. -/
def threeSlots (c : Dev nD) (g : Fin 8) : sProp 𝕄 := iprop(someSlot c g 0 ∗ someSlot c g 1 ∗ someSlot c g 2)

/-- All slots are those of each ring. -/
theorem slots_by_ring (c : Dev nD) :
    (bigSep Finset.univ fun b : Fin 8 × Fin 3 => someSlot (F := F) c b.1 b.2) = bigSep Finset.univ (threeSlots c) := by
  rw [bigSep_univ_prod]
  refine bigSep_congr fun g _ => ?_
  unfold threeSlots
  exact bigSep_univ_eq_bigSepL [0, 1, 2] (by decide) (by decide) _

theorem someSlot_eq (c : Dev nD) (b : Fin 8 × Fin 3) :
    (someSlot c b.1 b.2 : sProp 𝕄) = iprop(∃ f : Buf (Elt F) ((c : Thread nD τ).loc cc0_scratch0), ((c : Thread nD τ).loc cc0_scratch0) ↦[slotSet b]{fullShare} f) := by
  unfold someSlot slotPts; rw [slotSet_eq]

theorem comm_split (c : Dev nD) : commSt c ⊢ (bigSep Finset.univ (threeSlots c) : sProp 𝕄) := by
  rw [← slots_by_ring]
  unfold commSt
  iintro ⟨%f, H⟩
  ihave H := (Entails.of_eq (Idealize.ShloMosaic.Ring.pointsTo_blocks (ℓ := (c : Thread nD τ).loc cc0_scratch0) slotSet slotSet_disjoint slotSet_cover f)) $$ H
  have hs (b : Fin 8 × Fin 3) : (((c : Thread nD τ).loc cc0_scratch0) ↦[slotSet b]{fullShare} f) ⊢ (someSlot c b.1 b.2 : sProp 𝕄) := by
    rw [someSlot_eq]; iintro H; iexists f; iexact H
  have hb : (bigSep Finset.univ fun b : Fin 8 × Fin 3 => (((c : Thread nD τ).loc cc0_scratch0) ↦[slotSet b]{fullShare} f))
      ⊢ (bigSep Finset.univ fun b : Fin 8 × Fin 3 => someSlot c b.1 b.2 : sProp 𝕄) := bigSep_mono fun b _ => hs b
  iapply hb
  iexact H

theorem comm_join (c : Dev nD) (f₀ : Buf (Elt F) ((c : Thread nD τ).loc cc0_scratch0)) : (bigSep Finset.univ (threeSlots c) : sProp 𝕄) ⊢ commSt c := by
  rw [← slots_by_ring, bigSep_congr fun b _ => someSlot_eq (F := F) c b]
  exact Idealize.ShloMosaic.Ring.pointsTo_blocks_join_exists (ℓ := (c : Thread nD τ).loc cc0_scratch0) slotSet slotSet_disjoint slotSet_cover f₀

/-! ## Meeting -/

/-- What is known ring by ring is known of those sending to the right and of the others. -/
theorem by_direction (Φ : Fin 8 → sProp 𝕄) :
    bigSep Finset.univ Φ = iprop(bigSep (Finset.univ.filter fun g : Fin 8 => toRight g = true) Φ ∗ bigSep (Finset.univ.filter fun g : Fin 8 => toRight g = false) Φ) := by
  rw [show (Finset.univ.filter fun g : Fin 8 => toRight g = false) = Finset.univ \ (Finset.univ.filter fun g : Fin 8 => toRight g = true) by decide]
  exact bigSep_sdiff_split (Finset.filter_subset _ _)

/-- A device's slots 1 and 2 of a ring. -/
def lentSlots (c : Dev nD) (g : Fin 8) : sProp 𝕄 := iprop(someSlot c g 1 ∗ someSlot c g 2)

theorem lend_left (c : Dev nD) : bigSep (Finset.univ.filter fun g : Fin 8 => toRight g = true) (lentSlots c) = (barPay (leftOf c) true : sProp 𝕄) := by
  unfold barPay
  refine bigSep_congr fun g hg => ?_
  have : nxt g (leftOf c) = c := by unfold nxt; rw [(Finset.mem_filter.mp hg).2]; exact right_left c
  unfold lentSlots; rw [this]
theorem lend_right (c : Dev nD) : bigSep (Finset.univ.filter fun g : Fin 8 => toRight g = false) (lentSlots c) = (barPay (rightOf c) false : sProp 𝕄) := by
  unfold barPay
  refine bigSep_congr fun g hg => ?_
  have : nxt g (rightOf c) = c := by unfold nxt; rw [(Finset.mem_filter.mp hg).2]; exact left_right c
  unfold lentSlots; rw [this]

/-- What a device has for meeting: the rights to tell its neighbours, and its own place. -/
def meetSt (c : Dev nD) : sProp 𝕄 :=
  iprop(dutyTok ER (cell (leftOf c) cBar) 0 1 ∗ dutyTok ER (cell (rightOf c) cBar) 0 0 ∗ atPos ER (cell c cBar) 0 ∅ 0
    ∗ cred (tallyAt (cell c cBar) 0 2))

/-- A neighbour told. -/
theorem tell (c d : Dev nD) (right : Bool) {O O' : CellTallies nD τ sig ℕ} (hO : O = O' + tallyAt (cell d cBar) 0 1)
    (Q : PUnit → sProp 𝕄) :
    iprop(recs m ρ K J ∗ barPay d right ∗ dutyTok ER (cell d cBar) 0 right.toNat ∗ owing c O)
      ⊢ iprop((owing c O' -∗ Q ⟨⟩) -∗ runs c (semSignalWord d barS 1#32) Q) := by
  have hp : barPay d right = (ringRd (F := F) m ρ).payload (cell d cBar) 0 right.toNat := by
    rw [payload_eq]; cases right <;> rfl
  unfold owing semSignalWord
  iintro ⟨#Hr, Hpay, Ht, %W, HO⟩ HK
  iapply (Rounds.wp_signal 𝒱₀ ER (ringRd m ρ) (c : Thread nD τ) none (dst := (d : Thread nD τ)) (κ := K (d, cBar))
      (r := 0) (d := right.toNat)
      (show right.toNat ∈ (ringRd (F := F) m ρ).duties (cell d cBar) 0 by
        rw [duties_eq]; exact Finset.mem_range.mpr (by cases right <;> decide))
      ((amount_eq m ρ d cBar 0 right.toNat).trans rfl) 0 O' hO) $$ [HO Ht Hpay]
  · isplitr; · iapply (recs_cell m ρ K J d cBar); iexact Hr
    isplitl [HO]; · iexact HO
    isplitl [Ht]; · iexact Ht
    isplitl [Hpay]
    · iapply (show barPay d right ⊢ (ringRd m ρ).payload ((d : Thread nD τ), SemLoc.reg barS) 0 right.toNat from Entails.of_eq hp)
      iexact Hpay
    iapply (recs_first m ρ K J d cBar); iexact Hr
  iintro HO
  rw [wp_ret]; imodintro
  iapply HK
  iexists W; iexact HO

/-- The wait for both neighbours: the slots they lend. -/
theorem met (c : Dev nD) (Q : PUnit → sProp 𝕄) :
    iprop(recs m ρ K J ∗ atPos ER (cell c cBar) 0 ∅ 0 ∗ cred (tallyAt (cell c cBar) 0 2) ∗ owing c (owed c (fun _ => 0) fun _ => 0))
      ⊢ iprop(((atPos ER (cell c cBar) 1 ∅ 0 ∗ (bigSep Finset.univ fun g => lentSlots (nxt g c) g) ∗ owing c (owed c (fun _ => 0) fun _ => 0)) -∗ Q ⟨⟩)
          -∗ runs c (semWaitWord barS 2#32) Q) := by
  have hp : (bigSep ((ringRd (F := F) m ρ).duties (cell c cBar) 0 \ ∅) fun d => (ringRd (F := F) m ρ).payload (cell c cBar) 0 d)
      = bigSep Finset.univ fun g => lentSlots (nxt g c) g := by
    rw [rest_eq, by_direction]
    show bigSep (Finset.range (1 + 1)) _ = _
    rw [bigSep_range_succ, bigSep_range_succ, Finset.range_zero, bigSep_empty]
    exact congrArg (fun X : sProp 𝕄 => iprop(barPay c true ∗ X)) (BI.equiv_iff.mp BI.sep_emp)
  unfold owing semWaitWord
  iintro ⟨#Hr, Hat, Hc, %W, HO⟩ HK
  iapply (Rounds.wp_wait_rest_token 𝒱₀ ER (ringRd m ρ) (c : Thread nD τ) none (κ := K (c, cBar))
      (wpE_semWait_eq 𝒱₀ (c : Thread nD τ) none Set.univ) (Set.mem_univ _) 0 (O := owed c (fun _ => 0) fun _ => 0) (W := W) (R := 0) (m := 0) (T := ∅)
      ((Nat.zero_add _).trans (expect_eq m ρ c cBar 0).symm)) $$ [Hc HO Hat]
  · isplitr; · iapply (recs_cell m ρ K J c cBar); iexact Hr
    isplitl [Hc]; · iexact Hc
    isplitl [HO]; · iexact HO
    isplitr
    · iapply (recs_mayWait m ρ K J c (csem cBar) (ι := 0) (by omega)
        (fun g' => (lv_cell c cBar 0).le.trans_lt (by show 1 < _; omega)) (fun g' => (lv_cell c cBar 0).le.trans_lt (by show 1 < _; omega)))
      iexact Hr
    iexact Hat
  iintro ⟨HO, Hat, -, Hp⟩
  ihave Hp := (show (bigSep ((ringRd m ρ).duties ((c : Thread nD τ), SemLoc.reg barS) 0 \ ∅) fun d => (ringRd m ρ).payload ((c : Thread nD τ), SemLoc.reg barS) 0 d)
      ⊢ (bigSep Finset.univ fun g => lentSlots (nxt g c) g : sProp 𝕄) from Entails.of_eq hp) $$ Hp
  rw [wp_ret]; imodintro
  iapply HK
  isplitl [Hat]; · iexact Hat
  isplitl [Hp]; · iexact Hp
  iexists _; iexact HO

/-- Both neighbours told and awaited: the slots lent are exchanged for theirs. -/
theorem run_meet (c : Dev nD) (Q : PUnit → sProp 𝕄) :
    iprop(recs m ρ K J ∗ meetSt c ∗ bigSep Finset.univ (lentSlots c) ∗ owing c (O₀ c))
      ⊢ iprop(((atPos ER (cell c cBar) 1 ∅ 0 ∗ (bigSep Finset.univ fun g => lentSlots (nxt g c) g) ∗ owing c (owed c (fun _ => 0) fun _ => 0)) -∗ Q ⟨⟩)
          -∗ runs c (meet c) Q) := by
  rw [by_direction (lentSlots c), lend_left, lend_right]
  unfold meetSt meet
  iintro ⟨#Hr, ⟨Ht1, Ht0, Hat, Hc⟩, ⟨Hl, Hrt⟩, HO⟩ HK
  rw [runs_bind]
  iapply (tell m ρ K J c (leftOf c) true (O := O₀ c) (O' := O₁ c) rfl _) $$ [Hl Ht1 HO]
  · isplitr; · iexact Hr
    isplitl [Hl]; · iexact Hl
    isplitl [Ht1]; · iexact Ht1
    iexact HO
  iintro HO
  rw [runs_bind]
  iapply (tell m ρ K J c (rightOf c) false (O := O₁ c) (O' := owed c (fun _ => 0) fun _ => 0) rfl _) $$ [Hrt Ht0 HO]
  · isplitr; · iexact Hr
    isplitl [Hrt]; · iexact Hrt
    isplitl [Ht0]; · iexact Ht0
    iexact HO
  iintro HO
  iapply (met m ρ K J c Q) $$ [Hat Hc HO]
  · isplitr; · iexact Hr
    isplitl [Hat]; · iexact Hat
    isplitl [Hc]; · iexact Hc
    iexact HO
  iexact HK

/-! ## The end -/

/-- A cell whose rounds are over is given up: its count is zero. -/
theorem close_cell (c : Dev nD) (k : Cell) (R : ℕ) (hR : ∀ r, R ≤ r → dutiesOf k r = ∅) :
    iprop(recs m ρ K J ∗ atPos ER (cell c k) R ∅ 0) ⊢ (|={Set.univ}=> semVal (cell c k) 0 : sProp 𝕄) := by
  iintro ⟨#Hr, Hat⟩
  iapply (Rounds.cell_close ER (ringRd m ρ) (Set.mem_univ (K (c, k))) (fun h => h) (R := R) (fun r h => (duties_eq m ρ c k r).trans (hR r h)))
  isplitr; · iapply (recs_cell m ρ K J c k); iexact Hr
  iexact Hat

theorem send_over {g : Fin 8} {s : Fin 3} (r : ℕ) (h : 5 ≤ r) : dutiesOf (cSend g s) r = ∅ := if_neg (by omega)
theorem recv_over {g : Fin 8} {s : Fin 3} (r : ℕ) (h : 5 ≤ r) : dutiesOf (cRecv g s) r = ∅ := if_neg (by omega)
theorem cred_over {g : Fin 8} (r : ℕ) (h : 1 ≤ r) : dutiesOf (cCred g) r = ∅ := if_neg (by omega)
theorem bar_over (r : ℕ) (h : 1 ≤ r) : dutiesOf cBar r = ∅ := if_neg (by omega)

/-- A ring's credit cell given up after its thirteen credits. -/
theorem close_credit (c : Dev nD) (g : Fin 8) :
    iprop(recs m ρ K J ∗ credSt c g 13) ⊢ (|={Set.univ}=> semVal (cell c (cCred g)) 0 : sProp 𝕄) := by
  unfold credSt
  iintro ⟨#Hr, %T, %hT, Hat, -⟩
  have hT' : T = Finset.range 13 := Finset.eq_of_subset_of_card_le hT.1 (by rw [Finset.card_range]; exact hT.2)
  subst hT'
  imod (Rounds.fupd_skip ER (ringRd m ρ) (κ := K (c, cCred g)) (g := cell c (cCred g)) (R := 0) (m := 13) (T := Finset.range 13)
    (by rw [duties_eq]; exact Finset.Subset.refl _) (expect_eq m ρ c (cCred g) 0).symm (Set.mem_univ _)) $$ [Hat] with ⟨Hat, -⟩
  · isplitr; · iapply (recs_cell m ρ K J c (cCred g)); iexact Hr
    iexact Hat
  iapply (close_cell m ρ K J c (cCred g) (0 + 1) cred_over)
  isplitr; · iexact Hr
  iexact Hat

/-- A ring's cells at zero. -/
def ringZero (c : Dev nD) (g : Fin 8) : sProp 𝕄 :=
  iprop((semVal (cell c (cSend g 0)) 0 ∗ semVal (cell c (cSend g 1)) 0 ∗ semVal (cell c (cSend g 2)) 0)
    ∗ (semVal (cell c (cRecv g 0)) 0 ∗ semVal (cell c (cRecv g 1)) 0 ∗ semVal (cell c (cRecv g 2)) 0)
    ∗ semVal (cell c (cCred g)) 0)

/-- After its hops a ring gives back its slots and its cells. -/
theorem ring_end (c : Dev nD) (g : Fin 8) :
    iprop(recs m ρ K J ∗ ringSt c g 15 15) ⊢ (|={Set.univ}=> iprop(threeSlots c g ∗ ringZero c g) : sProp 𝕄) := by
  have hk : bigSep (Finset.Ico 13 15) (fun i => someSlot (F := F) c g (sl i)) = iprop(someSlot c g (sl 13) ∗ someSlot c g (sl 14)) := by
    rw [show Finset.Ico 13 15 = insert 13 {14} by decide, bigSep_insert (by decide), bigSep_singleton]; rfl
  have hl : (late c g 15 : sProp 𝕄) = someSlot c g (sl 15) := if_pos rfl
  unfold ringSt sndAll rcvAll incoming outgoing sndPos rcvPos
  rw [hk, hl, show sl (15 + 1 + 1) = 2 from rfl, show sl (15 + 1) = 1 from rfl, show sl (15 + 2 + 1) = 0 from rfl,
    show sl 15 = 0 from rfl, show sl 13 = 1 from rfl, show sl 14 = 2 from rfl, show 15 / 3 = 5 from rfl, show min (15 - 1) 13 = 13 from rfl]
  iintro ⟨#Hr, -, -, H0, ⟨⟨Hs0, -⟩, ⟨Hs1, -⟩, ⟨Hs2, -⟩⟩, ⟨⟨Hv0, -⟩, ⟨Hv1, -⟩, ⟨Hv2, -⟩⟩, ⟨-, -, -, Hc⟩, -, -, H1, H2⟩
  imod (close_cell m ρ K J c (cSend g 0) 5 send_over) $$ [Hs0] with Zs0
  · isplitr; · iexact Hr
    iexact Hs0
  imod (close_cell m ρ K J c (cSend g 1) 5 send_over) $$ [Hs1] with Zs1
  · isplitr; · iexact Hr
    iexact Hs1
  imod (close_cell m ρ K J c (cSend g 2) 5 send_over) $$ [Hs2] with Zs2
  · isplitr; · iexact Hr
    iexact Hs2
  imod (close_cell m ρ K J c (cRecv g 1) 5 recv_over) $$ [Hv0] with Zv0
  · isplitr; · iexact Hr
    iexact Hv0
  imod (close_cell m ρ K J c (cRecv g 2) 5 recv_over) $$ [Hv1] with Zv1
  · isplitr; · iexact Hr
    iexact Hv1
  imod (close_cell m ρ K J c (cRecv g 0) 5 recv_over) $$ [Hv2] with Zv2
  · isplitr; · iexact Hr
    iexact Hv2
  imod (close_credit m ρ K J c g) $$ [Hc] with Zc
  · isplitr; · iexact Hr
    iexact Hc
  imodintro
  unfold threeSlots ringZero
  isplitl [H0 H1 H2]
  · isplitl [H0]; · iexact H0
    isplitl [H1] <;> iassumption
  isplitl [Zs0 Zs1 Zs2]
  · isplitl [Zs0]; · iexact Zs0
    isplitl [Zs1] <;> iassumption
  isplitr [Zc]
  · isplitl [Zv2]; · iexact Zv2
    isplitl [Zv0] <;> iassumption
  iexact Zc

/-- What holds of each, with what everyone knows, holds of all. -/
theorem all_with {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  refine BIBase.Entails.trans (sep_mono_left (BI.bigSep_of_persistent S R)) ?_
  rw [← bigSep_sep']
  exact bigSep_mono fun i _ => h i

/-! ## The body -/

/-- What a device has of a ring at the start, its slots apart. -/
def ringStart (c : Dev nD) (g : Fin 8) : sProp 𝕄 :=
  iprop(hopTok c g 0 ∗ sndAll c g 0 ∗ rcvAll c g 0 ∗ incoming c g 0 ∗ outgoing c g 0)

/-- What a device starts its body with; -/
def deviceStart (c : Dev nD) : sProp 𝕄 := iprop(meetSt c ∗ bigSep Finset.univ (ringStart c))

/-- what it ends it with: all its cells at zero. -/
def deviceEnd (c : Dev nD) : sProp 𝕄 := iprop(semVal (cell c cBar) 0 ∗ bigSep Finset.univ (ringZero c))

/-- A device learns which it is. -/
theorem runs_device {α : Type} (c : Dev nD) (k : Dev nD → Prog (TpuEff nD τ sig (Elt F) Λ₀ .tc) α) (Q : α → sProp 𝕄) :
    runs c (Prog.lift .deviceId >>= k) Q = runs c (k c) Q := by
  unfold runs
  simp only [Prog.lift, Prog.bind_op, Prog.bind_ret, wp_deviceId]

/-- What a program ends in may be brought about at its end. -/
theorem runs_fupd {α : Type} (c : Dev nD) (p : Prog (TpuEff nD τ sig (Elt F) Λ₀ .tc) α) (Q : α → sProp 𝕄) :
    runs c p (fun a => iprop(|={Set.univ}=> Q a)) ⊢ runs c p Q := by
  unfold runs; exact wp_fupd _ _ _ _ _

/-- The body of a device, from its start to its result. -/
theorem run_body (c : Dev nD) (f₀ : Buf (Elt F) ((c : Thread nD τ).loc cc0_scratch0)) (Q : PUnit → sProp 𝕄) :
    iprop(recs m ρ K J ∗ deviceStart c ∗ commSt c ∗ factors m ρ c ∗ (∃ f, outPts c f) ∗ owing c (O₀ c))
      ⊢ iprop(((deviceEnd c ∗ commSt c ∗ factors m ρ c ∗ outSt m ρ c (fun _ => True) ∗ owing c 0) -∗ Q ⟨⟩)
          -∗ runs c (body xM wM oM cM cc0_scratch1 cc0_scratch2 cc0_scratch3) Q) := by
  have hslots : (bigSep Finset.univ (threeSlots c) : sProp 𝕄) = iprop((bigSep Finset.univ fun g => someSlot c g 0) ∗ bigSep Finset.univ (lentSlots c)) := by
    unfold threeSlots lentSlots; exact bigSep_sep' _ _ _
  have hone (g : Fin 8) : iprop(someSlot c g 0 ∗ lentSlots (nxt g c) g ∗ ringStart c g) ⊢ (seedSt c g : sProp 𝕄) := by
    unfold lentSlots ringStart seedSt
    rw [show sl 0 = 0 from rfl, show sl 1 = 1 from rfl]
    iintro ⟨H0, ⟨H1, H2⟩, H⟩
    isplitl [H0]; · iexact H0
    isplitl [H1]; · iexact H1
    isplitl [H2]; · iexact H2
    iexact H
  have hseed : iprop((bigSep Finset.univ fun g => someSlot c g 0) ∗ (bigSep Finset.univ fun g => lentSlots (nxt g c) g) ∗ bigSep Finset.univ (ringStart c))
      ⊢ (bigSep Finset.univ (seedSt c) : sProp 𝕄) := by
    rw [← bigSep_sep', ← bigSep_sep']
    exact bigSep_mono fun g _ => hone g
  have hend : iprop(recs m ρ K J ∗ bigSep Finset.univ fun g => ringSt c g 15 15)
      ⊢ (|={Set.univ}=> iprop(bigSep Finset.univ (threeSlots c) ∗ bigSep Finset.univ (ringZero c)) : sProp 𝕄) := by
    rw [← bigSep_sep']
    exact BIBase.Entails.trans (all_with fun g => ring_end m ρ K J c g) (bigSep_fupd _ _)
  unfold deviceStart body
  rw [runs_device]
  iintro ⟨#Hr, ⟨Hm, Hrings⟩, Hcomm, Hf, ⟨%f, Hout⟩, HO⟩ HK
  ihave Hsl := (comm_split c) $$ Hcomm
  ihave Hsl := (Entails.of_eq hslots) $$ Hsl
  icases Hsl with ⟨Hs0, Hlent⟩
  rw [runs_bind]
  iapply (run_meet m ρ K J c _) $$ [Hm Hlent HO]
  · isplitr; · iexact Hr
    isplitl [Hm]; · iexact Hm
    isplitl [Hlent]; · iexact Hlent
    iexact HO
  iintro ⟨Hbar, Hlent, HO⟩
  ihave Hseeds := hseed $$ [Hs0 Hlent Hrings]
  · isplitl [Hs0]; · iexact Hs0
    isplitl [Hlent]; · iexact Hlent
    iexact Hrings
  rw [runs_bind]
  iapply (run_order (recs m ρ K J) (seedSt c) (fun g => ringSt c g 0 0) (fun gs => iprop(factors m ρ c ∗ owing c (owed c (from' 0 gs) fun _ => 0)))
    (fun g gs hg Q => run_seed m ρ K J c g gs hg Q) _) $$ [Hseeds Hf HO]
  · isplitr; · iexact Hr
    isplitl [Hseeds]; · iexact Hseeds
    isplitl [Hf]; · iexact Hf
    rw [from_order]; iexact HO
  rw [from_nil]
  iintro ⟨Hrings, Hf, HO⟩
  iapply (runs_fupd c _ _)
  iapply (run_hops m ρ K J c _ [0, 1, 2, 3, 4, 5, 6, 7, 8, 9, 10, 11, 12, 13, 14] 0 (by repeat (first | exact rfl | refine ⟨rfl, ?_⟩))) $$ [Hrings Hf Hout HO]
  · isplitr; · iexact Hr
    unfold hopSt
    isplitl [Hrings]; · iexact Hrings
    isplitl [Hf]; · iexact Hf
    isplitl [Hout]
    · unfold outSt
      iexists f
      isplitr; · ipureintro; exact fun _ h => absurd h (show ¬ (0 = 15) by decide)
      iexact Hout
    iexact HO
  unfold hopSt
  rw [owed_done c (fun _ => by decide) (fun _ => by decide)]
  iintro ⟨Hrings, Hf, Hout, HO⟩
  imod hend $$ [Hrings] with ⟨Hslots, Hzero⟩
  · isplitr; · iexact Hr
    iexact Hrings
  imod (close_cell m ρ K J c cBar 1 bar_over) $$ [Hbar] with Hbar
  · isplitr; · iexact Hr
    iexact Hbar
  imodintro
  iapply HK
  unfold deviceEnd
  isplitl [Hbar Hzero]
  · isplitl [Hbar] <;> iassumption
  isplitl [Hslots]; · iapply (comm_join c f₀); iexact Hslots
  isplitl [Hf]; · iexact Hf
  isplitl [Hout]
  · iapply (outSt_mono m ρ (d := fun _ => 15 = 15) (d' := fun _ => True) (fun _ _ => rfl)); iexact Hout
  iexact HO

end Cert.KernelIdeal.Ring

end
-- ==== Proof.Deal.lean ====
module

public import proofs.«01_k».proof.Proof.Body

@[expose] public section

noncomputable section

/-! What the devices start with is dealt out: the cells' and the slots' invariants to everyone, the positions to their devices,
the payment tokens and the rights to take slots to the devices that use them, the launch's credits. -/

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots initSlots readerAt released writeTok slotInv)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Cell → ℕ) (J : Key → ℕ)

/-! ## Conjunctions over the cells, over numbers, over the rings -/

/-- Something of each of a ring's cells. -/
def ofRing (Φ : Own → sProp 𝕄) (g : Fin 8) : sProp 𝕄 :=
  iprop((Φ (.inl (g, 0)) ∗ Φ (.inl (g, 1)) ∗ Φ (.inl (g, 2)))
    ∗ (Φ (.inr (.inl (g, 0))) ∗ Φ (.inr (.inl (g, 1))) ∗ Φ (.inr (.inl (g, 2)))) ∗ Φ (.inr (.inr g)))

theorem over_three (Φ : Fin 3 → sProp 𝕄) : bigSep Finset.univ Φ = iprop(Φ 0 ∗ Φ 1 ∗ Φ 2) :=
  bigSep_univ_eq_bigSepL [0, 1, 2] (by decide) (by decide) Φ

theorem over_own (Φ : Own → sProp 𝕄) : bigSep Finset.univ Φ = bigSep Finset.univ (ofRing Φ) := by
  have e : ofRing Φ = fun g => iprop((Φ (.inl (g, 0)) ∗ Φ (.inl (g, 1)) ∗ Φ (.inl (g, 2)))
    ∗ (Φ (.inr (.inl (g, 0))) ∗ Φ (.inr (.inl (g, 1))) ∗ Φ (.inr (.inl (g, 2)))) ∗ Φ (.inr (.inr g))) := rfl
  rw [e]
  simp only [bigSep_univ_sum, bigSep_univ_prod, over_three, bigSep_sep']
  rfl

theorem over_unit (Φ : Unit → sProp 𝕄) : bigSep Finset.univ Φ = Φ () := by
  rw [show (Finset.univ : Finset Unit) = {()} from rfl, bigSep_singleton]

theorem over_cells (Φ : Cell → sProp 𝕄) : bigSep Finset.univ Φ = iprop(Φ cBar ∗ bigSep Finset.univ (ofRing fun k => Φ (.inr k))) := by
  rw [bigSep_univ_sum, over_unit, over_own]; rfl

theorem over_below (n : ℕ) (Φ : ℕ → sProp 𝕄) : bigSep Finset.univ (fun h : Fin n => Φ h.val) = bigSep (Finset.Ico 0 n) Φ := by
  have h : Finset.Ico 0 n = Finset.univ.map (Fin.valEmbedding (n := n)) := by
    ext x; simp only [Finset.mem_Ico, Finset.mem_map, Finset.mem_univ, true_and, Fin.valEmbedding_apply]
    exact ⟨fun h => ⟨⟨x, h.2⟩, rfl⟩, fun ⟨i, hi⟩ => by have := i.isLt; omega⟩
  rw [h, bigSep_map]; rfl

theorem over_swap {A B : Type} [Fintype A] [Fintype B] [DecidableEq A] [DecidableEq B] (Φ : A → B → sProp 𝕄) :
    bigSep Finset.univ (fun a => bigSep Finset.univ (Φ a)) = bigSep Finset.univ fun b => bigSep Finset.univ fun a => Φ a b := by
  have h := bigSep_univ_equiv (Equiv.prodComm B A) fun x : A × B => Φ x.1 x.2
  rw [bigSep_univ_prod, bigSep_univ_prod] at h
  exact h

theorem over_pairs {A B : Type} [DecidableEq A] [DecidableEq B] (s : Finset A) (t : Finset B) (Φ : A × B → sProp 𝕄) :
    bigSep (s ×ˢ t) Φ = bigSep s fun a => bigSep t fun b => Φ (a, b) := by
  induction s using Finset.induction_on with
  | empty => rw [Finset.empty_product, bigSep_empty, bigSep_empty]
  | insert a s ha ih =>
    have hone : ({a} : Finset A) ×ˢ t = t.map ⟨Prod.mk a, fun x y h => (Prod.mk.inj h).2⟩ := by
      ext ⟨x, y⟩
      rw [Finset.mem_product, Finset.mem_singleton, Finset.mem_map]
      constructor
      · rintro ⟨hx, hy⟩
        exact ⟨y, hy, congrArg (fun a => (a, y)) (show a = x from hx.symm)⟩
      · rintro ⟨b, hb, e⟩
        obtain ⟨h1, h2⟩ := Prod.mk.inj e
        exact ⟨h1.symm, h2 ▸ hb⟩
    rw [Finset.insert_eq, Finset.union_product, bigSep_union (Finset.disjoint_product.mpr (Or.inl (Finset.disjoint_singleton_left.mpr ha))),
      ← Finset.insert_eq, bigSep_insert ha, ih, hone, bigSep_map]
    rfl

/-- Dealing along the rings: what was the device's own of a ring is then the next device's. -/
theorem over_along (Φ : Dev nD → Fin 8 → sProp 𝕄) :
    bigSep Finset.univ (fun c => bigSep Finset.univ (Φ c)) = bigSep Finset.univ fun c => bigSep Finset.univ fun g => Φ (nxt g c) g := by
  rw [over_swap, bigSep_congr (s := Finset.univ) (fun (g : Fin 8) _ => bigSep_univ_equiv (along g) fun c => Φ c g), over_swap]
  rfl
theorem over_against (Φ : Dev nD → Fin 8 → sProp 𝕄) :
    bigSep Finset.univ (fun c => bigSep Finset.univ (Φ c)) = bigSep Finset.univ fun c => bigSep Finset.univ fun g => Φ (prv g c) g := by
  rw [over_swap, bigSep_congr (s := Finset.univ) (fun (g : Fin 8) _ => bigSep_univ_equiv (along g).symm fun c => Φ c g), over_swap]
  rfl

/-! ## The launch's elements -/

def allCells : Finset (GSem nD τ sig) := Finset.univ.map ⟨_, cell_injective⟩

theorem over_allCells (Φ : GSem nD τ sig → sProp 𝕄) :
    bigSep allCells Φ = bigSep Finset.univ fun ck : Dev nD × Cell => Φ (cell ck.1 ck.2) := by
  unfold allCells; rw [bigSep_map]; rfl

/-- A cell's payments: the two of a meeting cell, one for each hop of a ring's send cells and receive cells, one for each
    credit. -/
abbrev Pay : Type := Fin 2 ⊕ (Fin 8 × Fin 15) ⊕ (Fin 8 × Fin 15) ⊕ (Fin 8 × Fin 13)

def payAt : Pay → Cell × ℕ × ℕ
  | .inl d => (cBar, 0, d.val)
  | .inr (.inl (g, h)) => (cSend g (sl h.val), h.val / 3, 0)
  | .inr (.inr (.inl (g, h))) => (cRecv g (sl (h.val + 1)), h.val / 3, 0)
  | .inr (.inr (.inr (g, j))) => (cCred g, 0, j.val)

theorem hop_of_slot {h h' : ℕ} (hs : sl h = sl h') (hd : h / 3 = h' / 3) : h = h' := by
  have h1 : h % 3 = h' % 3 := congrArg Fin.val hs
  omega

theorem payAt_injective : Function.Injective payAt := by
  rintro (d | ⟨g, h⟩ | ⟨g, h⟩ | ⟨g, j⟩) (d' | ⟨g', h'⟩ | ⟨g', h'⟩ | ⟨g', j'⟩) e <;>
    simp only [payAt, Prod.mk.injEq, Sum.inl.injEq, Sum.inr.injEq, reduceCtorEq, false_and, true_and, and_true] at e
  · rw [Fin.ext e]
  · obtain ⟨⟨rfl, hs⟩, hd⟩ := e
    rw [Fin.ext (hop_of_slot hs hd)]
  · obtain ⟨⟨rfl, hs⟩, hd⟩ := e
    have h1 : (h.val + 1) % 3 = (h'.val + 1) % 3 := congrArg Fin.val hs
    rw [show h = h' from Fin.ext (by omega)]
  · obtain ⟨rfl, hd⟩ := e
    rw [Fin.ext hd]

def tokOf (x : Dev nD × Pay) : GSem nD τ sig × ℕ × ℕ := (cell x.1 (payAt x.2).1, (payAt x.2).2)

theorem tokOf_injective : Function.Injective tokOf := by
  rintro ⟨c, p⟩ ⟨c', p'⟩ h
  have h1 := cell_injective (a₁ := (c, (payAt p).1)) (a₂ := (c', (payAt p').1)) (congrArg Prod.fst h)
  have h2 : (payAt p).2 = (payAt p').2 := congrArg (fun x : GSem nD τ sig × ℕ × ℕ => x.2) h
  rw [show c = c' from congrArg Prod.fst h1, payAt_injective (Prod.ext (congrArg Prod.snd h1) h2)]

def allToks : Finset (GSem nD τ sig × ℕ × ℕ) := Finset.univ.map ⟨tokOf, tokOf_injective⟩

def u₀ : UU :=
  (initOf (Pipeline.cells cfgs cellOf_inj) (Pipeline.launchToks cfgs cellOf_inj), (initOf allCells allToks, initSlots keys 1))

/-! ## The tokens -/

/-- The tokens of device `c`'s own cells; -/
def ownToks (c : Dev nD) : sProp 𝕄 :=
  iprop((dutyTok ER (cell c cBar) 0 0 ∗ dutyTok ER (cell c cBar) 0 1)
    ∗ (bigSep Finset.univ fun g => bigSep (Finset.Ico 0 15) fun h => dutyTok ER (cell c (cSend g (sl h))) (h / 3) 0)
    ∗ (bigSep Finset.univ fun g => bigSep (Finset.Ico 0 15) fun h => dutyTok ER (cell c (cRecv g (sl (h + 1)))) (h / 3) 0)
    ∗ bigSep Finset.univ fun g => bigSep (Finset.Ico 0 13) fun j => dutyTok ER (cell c (cCred g)) 0 j)

/-- those it pays with. -/
def payToks (c : Dev nD) : sProp 𝕄 :=
  iprop((dutyTok ER (cell (leftOf c) cBar) 0 1 ∗ dutyTok ER (cell (rightOf c) cBar) 0 0)
    ∗ (bigSep Finset.univ fun g => bigSep (Finset.Ico 0 15) (hopTok c g))
    ∗ bigSep Finset.univ fun g => bigSep (Finset.Ico 0 13) fun j => dutyTok ER (cell (prv g c) (cCred g)) 0 j)

theorem over_allToks : bigSep allToks (fun x => (dutyTok ER x.1 x.2.1 x.2.2 : sProp 𝕄)) = bigSep Finset.univ ownToks := by
  have hb (c : Dev nD) : bigSep Finset.univ (fun d : Fin 2 => (dutyTok ER (cell c cBar) 0 d.val : sProp 𝕄))
      = iprop(dutyTok ER (cell c cBar) 0 0 ∗ dutyTok ER (cell c cBar) 0 1) := bigSep_univ_eq_bigSepL [0, 1] (by decide) (by decide) _
  unfold allToks ownToks
  rw [bigSep_map, bigSep_univ_prod]
  refine bigSep_congr fun c _ => ?_
  rw [bigSep_univ_sum, bigSep_univ_sum, bigSep_univ_sum, bigSep_univ_prod, bigSep_univ_prod, bigSep_univ_prod, ← hb c,
    bigSep_congr (s := Finset.univ) (fun (g : Fin 8) _ => (over_below 15 fun h => dutyTok ER (cell c (cSend g (sl h))) (h / 3) 0).symm),
    bigSep_congr (s := Finset.univ) (fun (g : Fin 8) _ => (over_below 15 fun h => dutyTok ER (cell c (cRecv g (sl (h + 1)))) (h / 3) 0).symm),
    bigSep_congr (s := Finset.univ) (fun (g : Fin 8) _ => (over_below 13 fun j => dutyTok ER (cell c (cCred g)) 0 j).symm)]
  rfl

def rightEquiv : Dev nD ≃ Dev nD := ⟨rightOf, leftOf, left_right, right_left⟩

theorem toks_dealt : bigSep Finset.univ ownToks ⊢ (bigSep Finset.univ payToks : sProp 𝕄) := by
  have hr : (bigSep Finset.univ fun c : Dev nD => (dutyTok ER (cell c cBar) 0 0 : sProp 𝕄))
      = bigSep Finset.univ fun c : Dev nD => dutyTok ER (cell (rightOf c) cBar) 0 0 := bigSep_univ_equiv rightEquiv _
  have hl : (bigSep Finset.univ fun c : Dev nD => (dutyTok ER (cell c cBar) 0 1 : sProp 𝕄))
      = bigSep Finset.univ fun c : Dev nD => dutyTok ER (cell (leftOf c) cBar) 0 1 := bigSep_univ_equiv rightEquiv.symm _
  unfold ownToks payToks hopTok
  simp only [bigSep_sep']
  rw [hr, hl, over_along (fun c g => bigSep (Finset.Ico 0 15) fun h => dutyTok ER (cell c (cRecv g (sl (h + 1)))) (h / 3) 0),
    over_against (fun c g => bigSep (Finset.Ico 0 13) fun j => dutyTok ER (cell c (cCred g)) 0 j)]
  iintro ⟨⟨H1, H2⟩, H3, H4, H5⟩
  isplitl [H1 H2]
  · isplitl [H2] <;> iassumption
  isplitl [H3 H4]
  · isplitl [H3] <;> iassumption
  iexact H5

/-! ## The slots -/

theorem over_keys (Φ : Key → sProp 𝕄) :
    bigSep keys Φ = bigSep Finset.univ fun c : Dev nD => bigSep Finset.univ fun g : Fin 8 => bigSep (Finset.Ico 0 13) fun i => Φ (c, g, i) := by
  unfold keys
  rw [over_pairs]
  refine bigSep_congr fun c _ => ?_
  rw [over_pairs, Finset.range_eq_Ico]

/-- The rights to put back the device's own slots and to take the next devices'. -/
def slotRights (c : Dev nD) : sProp 𝕄 :=
  iprop((bigSep Finset.univ fun g => bigSep (Finset.Ico 0 13) fun i => readerAt ES (c, g, i) 0)
    ∗ bigSep Finset.univ fun g => bigSep (Finset.Ico 0 13) fun i => writeTok ES (nxt g c, g, i) 1)

theorem rights_dealt : iprop((bigSep keys fun k => readerAt ES k 0) ∗ bigSep (keys ×ˢ Finset.range 1) fun x => writeTok ES x.1 (x.2 + 1))
    ⊢ (bigSep Finset.univ slotRights : sProp 𝕄) := by
  have hw : (bigSep (keys ×ˢ Finset.range 1) fun x => (writeTok ES x.1 (x.2 + 1) : sProp 𝕄)) = bigSep keys fun k => writeTok ES k 1 := by
    rw [over_pairs]
    exact bigSep_congr fun k _ => by rw [Finset.range_one, bigSep_singleton]
  unfold slotRights
  rw [hw, over_keys, over_keys, over_along (fun c g => bigSep (Finset.Ico 0 13) fun i => writeTok ES (c, g, i) 1), bigSep_sep']

/-! ## What each device is given -/

/-- A device's positions, tokens and rights. -/
def given (c : Dev nD) : sProp 𝕄 :=
  iprop((bigSep Finset.univ fun k : Cell => atPos ER (cell c k) 0 ∅ 0) ∗ payToks c ∗ slotRights c)

def G' (c : Dev nD) : sProp 𝕄 :=
  iprop(∃ (K : Dev nD × Cell → ℕ), ∃ (J : Key → ℕ), (bigSep Finset.univ fun ck : Dev nD × Cell => cellInv ER (ringRd m ρ) (K ck) (cell ck.1 ck.2))
    ∗ (bigSep Finset.univ fun ck : Dev nD × Cell => reached ER (cell ck.1 ck.2) 0)
    ∗ (bigSep keys fun x => slotInv ES (J x) x (putBack x)) ∗ given c)

/-- What the first device is given for all of them. -/
def G (c : Dev nD) : sProp 𝕄 :=
  if c = 0 then iprop(BI.own (ER (initOf allCells allToks)) ∗ BI.own (ES (initSlots keys 1))) else iprop(emp)

theorem over_G : bigSep Finset.univ (G (F := F)) = iprop(BI.own (ER (initOf allCells allToks)) ∗ BI.own (ES (initSlots keys 1))) := by
  rw [bigSep_univ_at _ (0 : Dev nD), bigSep_congr (s := Finset.univ.erase (0 : Dev nD)) (Ψ := fun _ => BI.emp)
    (fun c hc => show G c = BI.emp from if_neg (Finset.mem_erase.mp hc).1), BI.bigSep_emp_const]
  exact (BI.equiv_iff.mp BI.sep_emp).trans (if_pos rfl)

theorem ownSemFacts : Pipeline.OwnSemFacts cfg0.spec osem := by decide

theorem unscoped_eq (c : Dev nD) : (unscopedSems0 c : sProp 𝕄) = semVal (cell c cBar) 0 := by
  unfold unscopedSems0; rw [bigSep_eq_bigSepL_of_eq [SemLoc.reg barS] (by decide) (by decide)]; rfl

/-- A device's counters, the runtime's and the kernel's own. -/
theorem sems_eq (c : Dev nD) :
    iprop(unscopedSems0 c ∗ Pipeline.ownSems0 (Ix := ℕ) (Name := ℕ) (U := UU) (Lvl := ℕ) (Val := Elt F) (τ := τ) osem c)
      = (bigSep Finset.univ fun k : Cell => semVal (cell c k) 0 : sProp 𝕄) := by
  rw [bigSep_univ_sum, over_unit, unscoped_eq]; rfl

theorem end_eq (c : Dev nD) : (deviceEnd c : sProp 𝕄) = bigSep Finset.univ fun k : Cell => semVal (cell c k) 0 := by
  rw [over_cells]; rfl

/-- The launch's elements and every counter at zero become what each device is given. -/
theorem glob : (bigSep Finset.univ fun c => iprop(Pipeline.ownSems0 (Ix := ℕ) (Name := ℕ) (U := UU) (Lvl := ℕ) (Val := Elt F) (τ := τ) osem c
      ∗ unscopedSems0 c ∗ G c) : sProp 𝕄)
    ⊢ |={Set.univ}=> bigSep Finset.univ (G' m ρ) := by
  have hone (c : Dev nD) : iprop(Pipeline.ownSems0 (Ix := ℕ) (Name := ℕ) (U := UU) (Lvl := ℕ) (Val := Elt F) (τ := τ) osem c ∗ unscopedSems0 c)
      ⊢ (bigSep Finset.univ fun k : Cell => semVal (cell c k) 0 : sProp 𝕄) := by
    rw [← sems_eq]
    iintro ⟨H1, H2⟩
    isplitl [H2] <;> iassumption
  have hs : iprop((bigSep Finset.univ fun c : Dev nD => Pipeline.ownSems0 (Ix := ℕ) (Name := ℕ) (U := UU) (Lvl := ℕ) (Val := Elt F) (τ := τ) osem c)
      ∗ bigSep Finset.univ fun c : Dev nD => unscopedSems0 c) ⊢ (bigSep Finset.univ fun ck : Dev nD × Cell => semVal (cell ck.1 ck.2) 0 : sProp 𝕄) := by
    rw [← bigSep_sep', bigSep_univ_prod]
    exact bigSep_mono fun c _ => hone c
  have hinv : iprop((bigSep Finset.univ fun ck : Dev nD × Cell => semVal (cell ck.1 ck.2) 0)
        ∗ bigSep Finset.univ fun ck : Dev nD × Cell => roundState ER (ringRd m ρ) (cell ck.1 ck.2) 0)
      ⊢ (|={Set.univ}=> bigSep Finset.univ fun ck : Dev nD × Cell => iprop(∃ κ : ℕ, cellInv ER (ringRd m ρ) κ (cell ck.1 ck.2)) : sProp 𝕄) := by
    rw [← bigSep_sep']
    exact BIBase.Entails.trans (bigSep_mono fun ck _ => BIBase.Entails.trans (Rounds.body_intro ER (ringRd m ρ) (cell ck.1 ck.2)) inv_alloc)
      (bigSep_fupd _ _)
  have hgive : iprop((bigSep Finset.univ fun ck : Dev nD × Cell => atPos ER (cell ck.1 ck.2) 0 ∅ 0) ∗ bigSep Finset.univ payToks ∗ bigSep Finset.univ slotRights)
      ⊢ (bigSep Finset.univ given : sProp 𝕄) := by
    unfold given
    rw [bigSep_univ_prod, bigSep_sep', bigSep_sep']
  rw [bigSep_sep', bigSep_sep', over_G]
  iintro ⟨Hown, Hun, HR, HS⟩
  ihave Hv := hs $$ [Hown Hun]
  · isplitl [Hown] <;> iassumption
  imod (Rounds.fund ER (ringRd m ρ) allCells allToks) $$ HR with ⟨Hst, Hreach, Hat, Htok⟩
  ihave Hst := (Entails.of_eq (over_allCells fun g => roundState ER (ringRd m ρ) g 0)) $$ Hst
  ihave Hat := (Entails.of_eq (over_allCells fun g => atPos ER g 0 ∅ 0)) $$ Hat
  ihave Hreach := (Entails.of_eq (over_allCells fun g => reached ER g 0)) $$ Hreach
  ihave Htok := (Entails.of_eq over_allToks) $$ Htok
  ihave Htok := toks_dealt $$ Htok
  imod hinv $$ [Hv Hst] with HI
  · isplitl [Hv] <;> iassumption
  ihave HI := (BI.bigSep_exists_pi Finset.univ (fun (ck : Dev nD × Cell) (κ : ℕ) => (cellInv ER (ringRd m ρ) κ (cell ck.1 ck.2) : sProp 𝕄))) $$ HI
  icases HI with ⟨%K, HI⟩
  imod (Release.slots_init ES keys 1 putBack) $$ HS with ⟨%J, -, HJ, Hrd, Hwr⟩
  ihave Hrights := rights_dealt $$ [Hrd Hwr]
  · isplitl [Hrd] <;> iassumption
  ihave Hgiven := hgive $$ [Hat Htok Hrights]
  · isplitl [Hat]; · iexact Hat
    isplitl [Htok] <;> iassumption
  imodintro
  iapply (all_with (R := iprop((bigSep Finset.univ fun ck : Dev nD × Cell => cellInv ER (ringRd m ρ) (K ck) (cell ck.1 ck.2))
    ∗ (bigSep Finset.univ fun ck : Dev nD × Cell => reached ER (cell ck.1 ck.2) 0)
    ∗ (bigSep keys fun x => slotInv ES (J x) x (putBack x)))) (Φ := given) (Ψ := G' m ρ) fun c => by
      unfold G'
      iintro ⟨⟨H1, H2, H3⟩, H4⟩
      iexists K
      iexists J
      isplitl [H1]; · iexact H1
      isplitl [H2]; · iexact H2
      isplitl [H3] <;> iassumption)
  isplitl [HI Hreach HJ]
  · isplitl [HI]; · iexact HI
    isplitl [Hreach] <;> iassumption
  iexact Hgiven

/-! ## The launch's credits -/

/-- The credits of a ring's arrivals and of its credit cell. -/
def ringCreds (c : Dev nD) (g : Fin 8) : sProp 𝕄 :=
  iprop(bigSep (Finset.Ico 0 15) (arrival c g) ∗ bigSep (Finset.Ico 0 13) fun j => cred (tallyAt (cell c (cCred g)) j 1))

theorem creds (c : Dev nD) :
    (Pipeline.launchCred O₀ c : sProp 𝕄) ⊢ iprop(bigSep Finset.univ (ringCreds c) ∗ cred (tallyAt (cell c cBar) 0 2)) := by
  have hring : (Pipeline.launchCred (fun d => owed d (fun _ => 0) fun _ => 0) c : sProp 𝕄) ⊢ bigSep Finset.univ (ringCreds c) := by
    unfold owed
    rw [Pipeline.launchCred_sum Finset.univ (fun g d => ringOwed d g 0 0) c]
    refine bigSep_mono fun g _ => ?_
    unfold ringOwed ringCreds
    rw [Pipeline.launchCred_add, Pipeline.launchCred_sum (Finset.Ico 0 15) (fun h d => tallyAt (cell (nxt g d) (cRecv g (sl (h + 1)))) h N) c,
      Pipeline.launchCred_sum (Finset.Ico 0 13) (fun j d => tallyAt (cell (prv g d) (cCred g)) j 1) c]
    refine sep_mono (bigSep_mono fun h _ => ?_) (bigSep_mono fun j _ => ?_)
    · exact Pipeline.launchCred_tallyAt _ (nxt g) (prv g) (nxt_prv g) (prv_nxt g) h N c
    · exact Pipeline.launchCred_tallyAt _ (prv g) (nxt g) (prv_nxt g) (nxt_prv g) j 1 c
  have htwo : iprop(cred (tallyAt (cell c cBar) 0 1) ∗ cred (tallyAt (cell c cBar) 0 1)) ⊢ (cred (tallyAt (cell c cBar) 0 2) : sProp 𝕄) := by
    rw [show (tallyAt (cell c cBar) 0 2 : CellTallies nD τ sig ℕ) = tallyAt (cell c cBar) 0 1 + tallyAt (cell c cBar) 0 1 from (tallyAt_add (cell c cBar) 0 1 1).symm]
    exact (cred_add _ _).2
  have hbar : iprop(Pipeline.launchCred (fun d => tallyAt (cell (rightOf d) cBar) 0 1) c ∗ Pipeline.launchCred (fun d => tallyAt (cell (leftOf d) cBar) 0 1) c)
      ⊢ (cred (tallyAt (cell c cBar) 0 2) : sProp 𝕄) := by
    iintro ⟨H1, H2⟩
    iapply htwo
    isplitl [H1]
    · iapply (Pipeline.launchCred_tallyAt (csem cBar) rightOf leftOf right_left left_right 0 1 c); iexact H1
    · iapply (Pipeline.launchCred_tallyAt (csem cBar) leftOf rightOf left_right right_left 0 1 c); iexact H2
  have hO : O₀ = fun d => (owed d (fun _ => 0) (fun _ => 0) + tallyAt (cell (rightOf d) cBar) 0 1) + tallyAt (cell (leftOf d) cBar) 0 1 := rfl
  rw [hO, Pipeline.launchCred_add, Pipeline.launchCred_add]
  iintro ⟨⟨H1, H2⟩, H3⟩
  isplitl [H1]; · iapply hring; iexact H1
  iapply hbar
  isplitl [H2] <;> iassumption

/-! ## A device's start -/

/-- What is given of a ring. -/
def ringGiven (c : Dev nD) (g : Fin 8) : sProp 𝕄 :=
  iprop(ofRing (fun k => atPos ER (cell c (.inr k)) 0 ∅ 0) g ∗ bigSep (Finset.Ico 0 15) (hopTok c g)
    ∗ (bigSep (Finset.Ico 0 13) fun j => dutyTok ER (cell (prv g c) (cCred g)) 0 j)
    ∗ (bigSep (Finset.Ico 0 13) fun i => readerAt ES (c, g, i) 0) ∗ (bigSep (Finset.Ico 0 13) fun i => writeTok ES (nxt g c, g, i) 1)
    ∗ ringCreds c g)

theorem ring_start (c : Dev nD) (g : Fin 8) : iprop(recs m ρ K J ∗ ringGiven c g) ⊢ (ringStart c g : sProp 𝕄) := by
  have hh : (bigSep (Finset.Ico 0 15) (hopTok c g) : sProp 𝕄) = iprop(hopTok c g 0 ∗ bigSep (Finset.Ico 1 15) (hopTok c g)) :=
    bigSep_Ico_succ_bot (by decide) _
  have ht : (bigSep (Finset.Ico 0 13) (take c g) : sProp 𝕄) = iprop((bigSep (Finset.Ico 0 13) fun j => cred (tallyAt (cell c (cCred g)) j 1))
      ∗ bigSep (Finset.Ico 0 13) fun i => writeTok ES (nxt g c, g, i) 1) := bigSep_sep' _ _ _
  have hg : (bigSep (Finset.Ico 0 13) (give c g) : sProp 𝕄) = iprop((bigSep (Finset.Ico 0 13) fun i => readerAt ES (c, g, i) 0)
      ∗ bigSep (Finset.Ico 0 13) fun i => dutyTok ER (cell (prv g c) (cCred g)) 0 i) := bigSep_sep' _ _ _
  unfold ringGiven ringStart sndAll rcvAll sndPos rcvPos incoming outgoing ofRing ringCreds heard credSt
  rw [hh, hg, show (0 - 1 : ℕ) = 0 from rfl, show min 0 13 = 0 from rfl, ht, show (0 + 1 : ℕ) = 1 from rfl, show (0 + 2 : ℕ) = 2 from rfl,
    show (2 + 1 : ℕ) = 3 from rfl, show sl 0 = 0 from rfl, show sl 1 = 1 from rfl, show sl 2 = 2 from rfl,
    show sl 3 = 0 from rfl, show 0 / 3 = 0 from rfl, show Finset.range 0 = ∅ from rfl,
    show Finset.Ico 13 0 = ∅ from rfl, bigSep_empty, bigSep_empty]
  iintro ⟨#Hr, ⟨⟨Hs0, Hs1, Hs2⟩, ⟨Hv0, Hv1, Hv2⟩, Hc⟩, ⟨Hh0, Hh⟩, Hd, Hrd, Hwr, Ha, Hcr⟩
  isplitl [Hh0]; · iexact Hh0
  isplitl [Hs0 Hs1 Hs2]
  · isplitl [Hs0]
    · isplitl; · iexact Hs0
      iapply (recs_first m ρ K J c (cSend g 0)); iexact Hr
    isplitl [Hs1]
    · isplitl; · iexact Hs1
      iapply (recs_first m ρ K J c (cSend g 1)); iexact Hr
    isplitl; · iexact Hs2
    iapply (recs_first m ρ K J c (cSend g 2)); iexact Hr
  isplitl [Hv0 Hv1 Hv2]
  · isplitl [Hv1]
    · isplitl; · iexact Hv1
      iapply (recs_first m ρ K J c (cRecv g 1)); iexact Hr
    isplitl [Hv2]
    · isplitl; · iexact Hv2
      iapply (recs_first m ρ K J c (cRecv g 2)); iexact Hr
    isplitl; · iexact Hv0
    iapply (recs_first m ρ K J c (cRecv g 0)); iexact Hr
  isplitl [Ha Hh Hcr Hwr Hc]
  · isplitl [Ha]; · iexact Ha
    isplitl [Hh]; · iexact Hh
    isplitl [Hcr Hwr]
    · isplitl [Hcr] <;> iassumption
    iexists (∅ : Finset ℕ)
    isplitr; · ipureintro; exact ⟨Finset.empty_subset _, Nat.le_refl 0⟩
    isplitl [Hc]; · iexact Hc
    rw [bigSep_empty]; iempintro
  isplitl [Hrd Hd]
  · isplitl [Hrd] <;> iassumption
  isplitr <;> iempintro

theorem given_rings (c : Dev nD) : iprop(given c ∗ bigSep Finset.univ (ringCreds c) ∗ cred (tallyAt (cell c cBar) 0 2))
    ⊢ (iprop(meetSt c ∗ bigSep Finset.univ (ringGiven c)) : sProp 𝕄) := by
  unfold given payToks slotRights meetSt ringGiven
  rw [over_cells, bigSep_sep', bigSep_sep', bigSep_sep', bigSep_sep', bigSep_sep']
  iintro ⟨⟨⟨Hb, Hat⟩, ⟨⟨Ht1, Ht0⟩, Hh, Hd⟩, Hrd, Hwr⟩, Hcr, Hc⟩
  isplitl [Ht1 Ht0 Hb Hc]
  · isplitl [Ht1]; · iexact Ht1
    isplitl [Ht0]; · iexact Ht0
    isplitl [Hb] <;> iassumption
  isplitl [Hat]; · iexact Hat
  isplitl [Hh]; · iexact Hh
  isplitl [Hd]; · iexact Hd
  isplitl [Hrd]; · iexact Hrd
  isplitl [Hwr] <;> iassumption

theorem device_start (c : Dev nD) :
    iprop(recs m ρ K J ∗ given c ∗ bigSep Finset.univ (ringCreds c) ∗ cred (tallyAt (cell c cBar) 0 2)) ⊢ (deviceStart c : sProp 𝕄) := by
  unfold deviceStart
  iintro ⟨#Hr, H⟩
  ihave H := (given_rings c) $$ H
  icases H with ⟨Hm, H⟩
  isplitl [Hm]; · iexact Hm
  iapply (all_with fun g => ring_start m ρ K J c g)
  isplitr; · iexact Hr
  iexact H

end Cert.KernelIdeal.Ring

end
-- ==== Proof.Run.lean ====
module

public import proofs.«01_k».proof.Proof.Deal
public import proofs.«01_k».proof.Proof.Gen.KernelIdeal.Points
public import Idealize.ShloMosaic.Lib.ValueIdxCore
public import Idealize.ShloMosaic.Lib.Pipeline.CollectiveSegs

@[expose] public section

noncomputable section

/-! The run of the kernel on all devices, from what it is launched with to the result of every device. -/

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The result -/

/-- The ring whose columns contain this one. -/
def ringAt (k : Fin 4096) : Fin 8 := ⟨k.val / 512, by omega⟩
/-- The column within the ring's. -/
def colAt (k : Fin 4096) : Fin 512 := ⟨k.val % 512, Nat.mod_lt _ (by decide)⟩

/-- Device `c`'s result: each ring's last sum, made nonnegative, in the ring's columns. -/
def outAt (c : Dev nD) : Vec F S512x4096 .f32 := fun i => relu (acc m ρ (ringAt (i 1)) 15 c) (ValueIdx.ix2 (i 0) (colAt (i 1)))

theorem outCols_apply (g : Fin 8) (f : Vec F S512x4096 .f32) (j : S512x512.Idx) : outCols g f j = f ((colRect g).emb j) := rfl

theorem out_unique (c : Dev nD) (f : Vec F S512x4096 .f32) (hf : ∀ g, outCols g f = relu (acc m ρ g 15 c)) : f = outAt m ρ c := by
  funext i
  unfold outAt
  rw [← hf (ringAt (i 1)), outCols_apply]
  refine congrArg f (funext fun a => ?_)
  have h := Nat.div_add_mod (i 1).val 512
  match a with
  | ⟨0, _⟩ => exact Fin.ext (show (i 0).val = 0 + 1 * (i 0).val by omega)
  | ⟨1, _⟩ => exact Fin.ext (show (i 1).val = 512 * ((i 1).val / 512) + 1 * ((i 1).val % 512) by omega)

/-! ## The pipeline's proof data -/

/-- What a device starts its body with. -/
def start (c : Dev nD) : sProp 𝕄 := iprop(∃ (K : Dev nD × Cell → ℕ), ∃ (J : Key → ℕ), recs m ρ K J ∗ deviceStart c)

def Φ₀ (c : Dev nD) : sProp 𝕄 := iprop(start m ρ c ∗ commSt c)
def Φ₁ (c : Dev nD) : sProp 𝕄 := iprop(deviceEnd c ∗ commSt c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem over_windows (Φ : Fin cfg0.W → sProp 𝕄) : bigSep Finset.univ Φ = iprop(Φ (0 : Fin 3) ∗ Φ (1 : Fin 3) ∗ Φ (2 : Fin 3)) := bigSep_W0 Φ

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

abbrev pt : Fin cfg0.N := t0_0

def bodyPre (c : Dev nD) : sProp 𝕄 :=
  iprop(Φ₀ m ρ c ∗ (dats m ρ 0 c).owesAt 0 pt.castSucc
    ∗ (∃ d, stg c cc0_stg0_0 ((dats m ρ 0 c).before (0 : Fin 3) pt d))
    ∗ (∃ d, stg c cc0_stg1_0 ((dats m ρ 0 c).before (1 : Fin 3) pt d))
    ∗ (∃ d, stg c cc0_stg2_0 ((dats m ρ 0 c).before (2 : Fin 3) pt d)))

def bodyPost (c : Dev nD) : sProp 𝕄 :=
  iprop(Φ₁ (F := F) c ∗ (dats m ρ 0 c).owesAt 0 pt.succ ∗ stg c cc0_stg0_0 (xstg m ρ c) ∗ stg c cc0_stg1_0 (wstg m ρ c)
    ∗ stg c cc0_stg2_0 (outAt m ρ c))

theorem before_x (c : Dev nD) (d) : (dats m ρ 0 c).before (0 : Fin 3) pt d = xstg m ρ c := by
  unfold Dat.before; rw [if_pos (fetch0_0 pt)]; rfl
theorem before_w (c : Dev nD) (d) : (dats m ρ 0 c).before (1 : Fin 3) pt d = wstg m ρ c := by
  unfold Dat.before; rw [if_pos (fetch0_1 pt)]; rfl

/-- The body from what the pipeline hands it to what it is to leave. -/
theorem sound_body (c : Dev nD) :
    bodyPre m ρ c ⊢ runs c (body xM wM oM cM cc0_scratch1 cc0_scratch2 cc0_scratch3) (fun _ => bodyPost m ρ c) := by
  unfold bodyPre Φ₀ start
  simp only [before_x, before_w]
  iintro ⟨⟨⟨%K, %J, #Hr, Hs⟩, Hcomm⟩, Ho, ⟨%d0, %f0, %h0, Hx⟩, ⟨%d1, %f1, %h1, Hw⟩, ⟨%d2, %f2, -, Hout⟩⟩
  subst h0
  subst h1
  unfold Dat.owesAt Pipeline.owesWithin
  icases Ho with ⟨%W, %hW, HO⟩
  rw [show (dats m ρ 0 c).owed pt.castSucc = O₀ c from rfl]
  iapply (run_body m ρ K J c (m ((c : Thread nD τ).loc cc0_scratch0)) _) $$ [Hs Hcomm Hx Hw Hout HO]
  · isplitr; · iexact Hr
    isplitl [Hs]; · iexact Hs
    isplitl [Hcomm]; · iexact Hcomm
    isplitl [Hx Hw]
    · unfold factors
      isplitl [Hx] <;> iassumption
    isplitl [Hout]
    · unfold outPts
      iexists f2; iexact Hout
    unfold owing
    iexists W; iexact HO
  unfold factors outSt outPts owing bodyPost Φ₁ Dat.owesAt Pipeline.owesWithin
  rw [show (dats m ρ 0 c).owed pt.succ = 0 from rfl]
  iintro ⟨Hend, Hcomm, ⟨Hx, Hw⟩, ⟨%f, %hf, Hout⟩, ⟨%W', HO⟩⟩
  isplitl [Hend Hcomm]
  · isplitl [Hend] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists f
  isplitr; · ipureintro; exact out_unique m ρ c f fun g => hf g trivial
  iexact Hout

set_option maxRecDepth 8000 in
theorem body_obligation (c : Dev nD) : BodyObligation (dats (F := F) m ρ 0 c) (defs₀ (F := F)) 𝒱₀ 0 Set.univ := fun t => by
  rw [fin_N0 t]
  rw [over_windows, over_windows]
  simp only [owns_whole]
  have hb : (defs₀ (F := F)) Proc.tc 0 (t0_0, cfg0.slots t0_0) = body xM wM oM cM cc0_scratch1 cc0_scratch2 cc0_scratch3 := by
    refine Eq.trans (show _ = cc0_body xM (Memref.isWhole_whole _) wM (Memref.isWhole_whole _)
      oM (Memref.isWhole_whole _) cM (Memref.isWhole_whole _) cc0_scratch1 cc0_scratch2 cc0_scratch3 from rfl) ?_
    rw [cc0_body_eq_skeleton, body_eq]
  have hc := sound_body m ρ c
  rw [← hb] at hc
  clear hb
  revert hc
  generalize (defs₀ (F := F)) Proc.tc 0 (t0_0, cfg0.slots t0_0) = p
  intro hc
  exact BIBase.Entails.trans hc (wp_mono _ _ _ fun _ => BI.Entails.refl _)

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G'
  iintro ⟨-, Hlev, Hcr, -, ⟨%K, %J, H1, H2, H3, Hg⟩⟩
  ihave Hc := (creds c) $$ Hcr
  icases Hc with ⟨Hc1, Hc2⟩
  ihave Hr := (show iprop((bigSep Finset.univ fun ck : Dev nD × Cell => cellInv ER (ringRd m ρ) (K ck) (cell ck.1 ck.2))
    ∗ (bigSep Finset.univ fun ck : Dev nD × Cell => reached ER (cell ck.1 ck.2) 0)
    ∗ (bigSep keys fun x => Release.slotInv ES (J x) x (putBack x)) ∗ levAts L lv) ⊢ recs m ρ K J from by unfold recs; exact BI.Entails.refl _) $$ [H1 H2 H3 Hlev]
  · isplitl [H1]; · iexact H1
    isplitl [H2]; · iexact H2
    isplitl [H3] <;> iassumption
  icases Hr with #Hr
  imodintro
  isplitl
  · iexists K
    iexists J
    isplitr; · iexact Hr
    iapply (device_start m ρ K J c)
    isplitr; · iexact Hr
    isplitl [Hg]; · iexact Hg
    isplitl [Hc1] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ commSt
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ commSt
  rw [end_eq, ← sems_eq]
  iintro ⟨⟨H1, H2⟩, Hr⟩
  isplitl [H1]; · iexact H1
  isplitl [H2] <;> iassumption

theorem waits (c : Dev nD) : (levAts L lv : sProp 𝕄) ⊢ Pipeline.cellsWaits cfgs (dats m ρ) 0 0 c :=
  Pipeline.cellsWaits_intro cfgs (dats m ρ) 0 0 c fun w s t => by
    have hk : kindOf (.dma ((cfg0.win w).sem s)) = none := by revert w s; decide
    rcases t with ⟨_ | _, ht⟩
    · exact mayWait_stage c _ hk
    · show _ ⊢ MayWait _ _ _ 0
      rw [MayWait_zero]; iintro -; iempintro

/-! ## The run -/

/-- What is in window `w`'s array of device `c` in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

attribute [local irreducible] cc0_body body cc0_body_skel in
set_option maxRecDepth 8000 in
/-- From any memory with zero counters every weakly fair execution ends, with every device's arrays as computed and every
    counter at zero. -/
theorem run_main : θ_run defs (onTc (τ := τ) (main (F := F))) (s₀ m ρ) (fun r => QC m ρ r ∧ r.2.sem = fun _ => 0) := by
  refine Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := ?_)
    (hbody := ?_) (hne := ?_) (harr := ?_) (hstage := ?_) (hshare := ?_)
    (hdistinct := ?_)
    (O₀ := O₀) (howed₀ := ?_) (howedN := ?_)
    (L := L) (lv := lv) (hL := ?_) (hwaits := ?_)
    (G := G) (G' := G' m ρ) (u₀ := u₀)
    (hu₀ := ?_)
    (hglob := ?_)
    (hA := ?_) (hpf := ?_)
    (X := start m ρ) (Y := fun c => unscopedSems0 c) (Z := fun _ => iprop(emp))
    (hX := ?_) (hin := ?_) (hout := ?_)
    (QY := fun c s => ∀ sm : SemLoc sig, sm.isScoped .tc = false → s.sem ((c.tc : Thread nD τ), sm) = 0)
    (hY := ?_)
    (hQ := ?_)
  · exact fun c => (main_chain c).trans rfl
  · exact body_obligation m ρ
  · exact fun w => by fin_cases w <;> exact Nat.succ_pos _
  · exact arr_whole0
  · exact stage_whole0
  · exact share_eq m ρ
  · exact winFacts0.arr_inj
  · exact fun _ => rfl
  · exact fun _ => rfl
  · exact L_of_ne
  · exact waits m ρ
  · unfold u₀
    rw [over_G]
    iintro Hu
    ihave H := (ownU_pair _ _) $$ Hu
    icases H with ⟨HP, HX⟩
    ihave HX := (own_pair_emb (embR : Emb (URing × Release.USlots Key) (MT nD τ sig ℕ (Elt F) ℕ UU ℕ)) _ _) $$ HX
    imodintro
    isplitl [HP] <;> iassumption
  · exact glob m ρ
  · exact fun _ _ => rfl
  · exact fun _ k => k.elim0
  · exact start_intro m ρ
  · exact phi0_intro m ρ
  · exact phi1_exit m ρ
  · exact fun c s' => by
      iintro ⟨Hu, -, HSI⟩
      iapply (Pipeline.unscopedSems0_read (X := unscopedSems0 c) (c := c) fupd_intro s')
      isplitl [Hu] <;> iassumption
  · exact fun _ h hs => ⟨fun c w => (h c).1 w, sem_eq_zero hs fun c => (h c).2.2⟩

end Cert.KernelIdeal.Ring

end
-- ==== Proof.Frames.lean ====
module

public import proofs.«01_k».proof.Defs
public import proofs.«01_k».proof.Proof.Run
public import proofs.«01_k».proof.Proof.Gen.Kernel
public import proofs.«01_k».proof.Proof.Gen.ReferenceIdeal.Run

@[expose] public section

noncomputable section

/-! The frames: every program ends, its arguments unchanged and its counters at zero. -/

namespace Cert.Proof

open Idealize.ShloMosaic Idealize.ShloMosaic.TcCoe Idealize.SL.Sem

section Kept
open Cert.KernelIdeal Cert.KernelIdeal.Gen Cert.KernelIdeal.Ring
variable {F : FTy → Type} [FloatOps F] (m : (ℓ : Loc nD τ sig) → Buf (Elt F) ℓ) (ρ : Dev nD → PrngReg)

theorem kept_x (r : PUnit × MemSt nD τ sig (Elt F)) (h : QC m ρ r) (c : Dev nD) :
    r.2.mem ((c : Thread nD τ).loc main_arg0) = m ((c : Thread nD τ).loc main_arg0) :=
  (h c (0 : Fin 3)).trans ((dats (F := F) m ρ 0 c).arrAt_in (0 : Fin 3) rfl _)
theorem kept_w (r : PUnit × MemSt nD τ sig (Elt F)) (h : QC m ρ r) (c : Dev nD) :
    r.2.mem ((c : Thread nD τ).loc main_arg1) = m ((c : Thread nD τ).loc main_arg1) :=
  (h c (1 : Fin 3)).trans ((dats (F := F) m ρ 0 c).arrAt_in (1 : Fin 3) rfl _)

/-- The run, with what it computes left out. -/
theorem kept : θ_run (defs (F := F)) (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨kept_x m ρ r h.1 c, kept_w m ρ r h.1 c⟩, h.2⟩) (run_main m ρ)

end Kept

theorem frame_kernelIdeal : Cert.quiescent_KernelIdeal := fun m ρ _ => kept m ρ

/-! The two kernels have the same text. -/

theorem body_same : Cert.Kernel.cc0_body (F := Bits) = Cert.KernelIdeal.cc0_body (F := Bits) := rfl

theorem defs₀_same : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | ⟨0, _⟩, (t, s) =>
    show Cert.Kernel.cc0_body _ _ _ _ _ _ _ _ _ _ _ = _
    rw [body_same]
  | ⟨_ + 1, h⟩, _ => exact absurd h (Nat.not_lt.2 (Nat.le_add_left _ _))

theorem defs_same : Cert.Kernel.defs (F := Bits) = Cert.KernelIdeal.defs (F := Bits) := by
  unfold Cert.Kernel.defs Cert.KernelIdeal.defs
  rw [defs₀_same]
  rfl

theorem main_same : Cert.Kernel.main (F := Bits) = Cert.KernelIdeal.main (F := Bits) := rfl

theorem frame_kernel : Cert.quiescent_Kernel := fun m ρ _ => by
  rw [defs_same, main_same]
  exact kept (F := Bits) m ρ

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Sums.lean ====
module

public import proofs.«01_k».proof.Proof.Schedule
public import Idealize.ShloMosaic.Lib.MatmulPlain
public import Idealize.ShloMosaic.Lib.Pipeline.Value
public import Idealize.ShloMosaic.Lib.ValueIdxCore

@[expose] public section

noncomputable section

/-! A ring's last sum in exact arithmetic: the products of all sixteen devices for the rows of the device that keeps it. -/

namespace Cert.KernelIdeal.Ring

open Cert.KernelIdeal Cert.KernelIdeal.Gen
open Idealize.ShloMosaic Idealize.ShloMosaic.TcCoe
open scoped BigOperators

/-! ## Going round a ring -/

/-- A sum passed along `next` and added to on the way is the sum over the devices it has passed. -/
theorem passed {M : Type} [AddCommMonoid M] {D B : Type} (prev : D → D) (block : ℕ → D → B) (T : B → D → M) (a : ℕ → D → M)
    (h0 : ∀ c, a 0 c = T (block 0 c) c) (hs : ∀ k c, k < 15 → a (k + 1) c = a k (prev c) + T (block (k + 1) c) c)
    (hb : ∀ k c, k < 15 → block (k + 1) c = block k (prev c)) (k : ℕ) (hk : k ≤ 15) (c : D) :
    a k c = ∑ i ∈ Finset.range (k + 1), T (block k c) (prev^[i] c) := by
  induction k generalizing c with
  | zero => simp [h0]
  | succ k ih =>
    rw [hs k c (by omega), ih (by omega), Finset.sum_range_succ' _ (k + 1), hb k c (by omega)]
    rfl

theorem prv_right_val {g : Fin 8} (hg : toRight g = true) (c : Dev nD) : (prv g c).val = (c.val + 15) % 16 := by
  unfold prv; rw [hg]; exact k0_dev1_eq c
theorem prv_left_val {g : Fin 8} (hg : toRight g = false) (c : Dev nD) : (prv g c).val = (c.val + 1) % 16 := by
  unfold prv; rw [hg]; exact k0_dev2_eq c

theorem prv_iter_right {g : Fin 8} (hg : toRight g = true) (c : Dev nD) (i : ℕ) : ((prv g)^[i] c).val = (c.val + 15 * i) % 16 := by
  induction i with
  | zero => have hc : c.val < 16 := c.isLt; simp only [Function.iterate_zero, id_eq]; omega
  | succ i ih => rw [Function.iterate_succ_apply', prv_right_val hg, ih]; omega
theorem prv_iter_left {g : Fin 8} (hg : toRight g = false) (c : Dev nD) (i : ℕ) : ((prv g)^[i] c).val = (c.val + i) % 16 := by
  induction i with
  | zero => have hc : c.val < 16 := c.isLt; simp only [Function.iterate_zero, id_eq]; omega
  | succ i ih => rw [Function.iterate_succ_apply', prv_left_val hg, ih]; omega

theorem prv_iter_inj (g : Fin 8) (c : Dev nD) : Function.Injective (fun i : Fin 16 => (prv g)^[i.val] c) := by
  intro i j h
  have h' := congrArg Fin.val h
  dsimp only at h'
  refine Fin.ext ?_
  cases hg : toRight g
  · rw [prv_iter_left hg, prv_iter_left hg] at h'; omega
  · rw [prv_iter_right hg, prv_iter_right hg] at h'; omega

/-- Once round, a ring has passed every device. -/
theorem once_round {M : Type} [AddCommMonoid M] (g : Fin 8) (c : Dev nD) (f : Dev nD → M) :
    ∑ i ∈ Finset.range 16, f ((prv g)^[i] c) = ∑ j : Dev nD, f j := by
  rw [Finset.sum_range]
  have hb : Function.Bijective (fun i : Fin 16 => (prv g)^[i.val] c) := Finite.injective_iff_bijective.mp (prv_iter_inj g c)
  exact (Equiv.ofBijective _ hb).sum_comp f

/-! ## The rows a ring multiplies -/

/-- The block of rows for which device `c` sends a sum in hop `k` of ring `g`. -/
def blockOf (g : Fin 8) (k : ℕ) (c : Dev nD) : ℕ := bif toRight g then (c.val + 31 - k) % 16 else (c.val + 1 + k) % 16

theorem blockOf_succ (g : Fin 8) (k : ℕ) (c : Dev nD) (hk : k < 15) : blockOf g (k + 1) c = blockOf g k (prv g c) := by
  have hc : c.val < 16 := c.isLt
  unfold blockOf
  cases hg : toRight g
  · rw [prv_left_val hg]; simp only [cond_false]; omega
  · rw [prv_right_val hg]; simp only [cond_true]; omega

theorem blockOf_last (g : Fin 8) (c : Dev nD) : blockOf g 15 c = c.val := by
  have hc : c.val < 16 := c.isLt
  unfold blockOf
  cases toRight g
  · simp only [cond_false]; omega
  · simp only [cond_true]; omega

theorem seedOff_eq (g : Fin 8) (c : Dev nD) : seedOff g c = ![512 * blockOf g 0 c, 0] := by
  unfold seedOff blockOf
  cases toRight g
  · exact k0_off2_eq c
  · exact (k0_off1_eq c).trans (by simp only [cond_true]; congr 2; omega)

theorem rowOff_eq (g : Fin 8) (k : ℕ) (hk : k < 15) (c : Dev nD) : rowOff g (hopIx k) c = ![512 * blockOf g (k + 1) c, 0] := by
  have hv : (hopIx k).val = k := Nat.mod_eq_of_lt hk
  unfold rowOff blockOf
  cases toRight g
  · exact (k0_off4_eq c (hopIx k)).trans (by rw [hv]; simp only [cond_false]; congr 2; omega)
  · exact (k0_off3_eq c (hopIx k)).trans (by rw [hv]; simp only [cond_true]; congr 2; omega)

/-! ## A ring's sums, entry by entry -/

variable (m : (ℓ : Loc nD τ sig) → Buf (Elt Ideal) ℓ) (ρ : Dev nD → PrngReg)

/-- Device `c`'s first factor, as numbers; -/
def xOf (c : Dev nD) : S8192x512.Idx → EReal := xstg m ρ c
/-- its second. -/
def wOf (c : Dev nD) : S512x4096.Idx → EReal := wstg m ρ c

/-- Row `r` of block `b`. -/
def rowIn (b r : ℕ) (hb : b < 16) (hr : r < 512) : Fin 8192 := ⟨512 * b + r, by omega⟩
/-- Column `q` of ring `g`. -/
def colIn (g : Fin 8) (q : Fin 512) : Fin 4096 := ⟨512 * g.val + q.val, by omega⟩

theorem blockOf_lt (g : Fin 8) (k : ℕ) (c : Dev nD) : blockOf g k c < 16 := by
  unfold blockOf; cases toRight g <;> exact Nat.mod_lt _ (by decide)

/-- One device's part of an entry of the result: row `r` of block `b`, column `q` of ring `g`. -/
def part (g : Fin 8) (r q : Fin 512) (b : Fin 16) (c : Dev nD) : EReal :=
  ∑ k : Fin 512, xOf m ρ c (ValueIdx.ix2 (rowIn b.val r.val b.isLt r.isLt) k)
    * wOf m ρ c (ValueIdx.ix2 k (colIn g q))

theorem shapeCast_same (v : S512x512.Idx → EReal) : shapeCast S512x512 v shapeCasts_S512x512_S512x512 = v :=
  shapeCast_self v _

theorem rows_apply (c : Dev nD) (b : Fin 16) (off : Fin 2 → ℕ) (h : Inb off) (e : off = ![512 * b.val, 0]) (r k : Fin 512) :
    rows m ρ c off h (ValueIdx.ix2 r k) = xOf m ρ c (ValueIdx.ix2 (rowIn b.val r.val b.isLt r.isLt) k) := by
  subst e
  unfold rows
  show xOf m ρ c _ = _
  refine congrArg _ (funext fun a => ?_)
  match a with
  | ⟨0, _⟩ => exact Fin.ext (show 512 * b.val + 1 * r.val = 512 * b.val + r.val by omega)
  | ⟨1, _⟩ => exact Fin.ext (show 0 + 1 * k.val = k.val by omega)

theorem cols_apply (c : Dev nD) (g : Fin 8) (k q : Fin 512) :
    cols m ρ c g (ValueIdx.ix2 k q) = wOf m ρ c (ValueIdx.ix2 k (colIn g q)) := by
  unfold cols
  show wOf m ρ c _ = _
  refine congrArg _ (funext fun a => ?_)
  match a with
  | ⟨0, _⟩ => exact Fin.ext (show 0 + 1 * k.val = k.val by omega)
  | ⟨1, _⟩ => exact Fin.ext (show 512 * g.val + 1 * q.val = 512 * g.val + q.val by omega)

theorem prodAt_apply (c : Dev nD) (g : Fin 8) (b : Fin 16) (off : Fin 2 → ℕ) (h : Inb off) (e : off = ![512 * b.val, 0]) (r q : Fin 512) :
    prodAt m ρ c g off h (ValueIdx.ix2 r q) = part m ρ g r q b c := by
  unfold prodAt prod part
  rw [shapeCast_same, shapeCast_same]
  refine (Ideal.matmul_plain_apply (M := 512) (K := 512) (N := 512) none _ _ _ r q).trans ?_
  rw [show (constant S512x512 .f32 0x00000000#32 : FVec Ideal S512x512 .f32) (ValueIdx.ix2 r q) = 0 from Ideal.ofBits_zero_f32, zero_add]
  exact Finset.sum_congr rfl fun k _ => by rw [rows_apply m ρ c b off h e, cols_apply]

/-- The last sum of a ring on device `c`: the parts of all devices for block `c`. -/
theorem acc_last (g : Fin 8) (c : Dev nD) (r q : Fin 512) :
    acc m ρ g 15 c (ValueIdx.ix2 r q) = ∑ j : Dev nD, part m ρ g r q c j := by
  have h := passed (M := EReal) (prv g) (fun k c => (⟨blockOf g k c, blockOf_lt g k c⟩ : Fin 16)) (part m ρ g r q)
    (fun k c => (acc m ρ g k c (ValueIdx.ix2 r q) : EReal))
    (fun c => prodAt_apply m ρ c g ⟨blockOf g 0 c, blockOf_lt g 0 c⟩ _ _ (seedOff_eq g c) r q)
    (fun k c hk => congrArg (fun y : EReal => (acc m ρ g k (prv g c) (ValueIdx.ix2 r q) : EReal) + y)
      (prodAt_apply m ρ c g ⟨blockOf g (k + 1) c, blockOf_lt g (k + 1) c⟩ _ _ (rowOff_eq g k hk c) r q))
    (fun k c hk => Fin.ext (blockOf_succ g k c hk)) 15 (le_refl _) c
  rw [show (⟨blockOf g 15 c, blockOf_lt g 15 c⟩ : Fin 16) = c from Fin.ext (blockOf_last g c)] at h
  exact h.trans (once_round g c _)

end Cert.KernelIdeal.Ring

end
-- ==== Proof.Value.lean ====
module

public import proofs.«01_k».proof.Proof.Frames
public import proofs.«01_k».proof.Proof.Sums
public import Idealize.ShloMosaic.Lib.Layout

@[expose] public section

noncomputable section

/-! The equality with the reference: in exact arithmetic device `c` ends with its block of rows of the positive part of the
    whole product. -/

namespace Cert.Proof

open Idealize.ShloMosaic Idealize.ShloMosaic.TcCoe Idealize.SL.Sem
open scoped BigOperators

/-! ## What the kernel leaves -/

section Result
open Cert.KernelIdeal Cert.KernelIdeal.Gen Cert.KernelIdeal.Ring
variable {F : FTy → Type} [FloatOps F] (m : (ℓ : Loc nD τ sig) → Buf (Elt F) ℓ) (ρ : Dev nD → PrngReg)

theorem x_whole (c : Dev nD) : xstg m ρ c = m ((c : Thread nD τ).loc main_arg0) :=
  Memref.read_access_unit_zero (Elt F) main_arg0 (funext fun a => by fin_cases a <;> decide) (fun a => by fin_cases a <;> decide) _
theorem w_whole (c : Dev nD) : wstg m ρ c = m ((c : Thread nD τ).loc main_arg1) :=
  Memref.read_access_unit_zero (Elt F) main_arg1 (funext fun a => by fin_cases a <;> decide) (fun a => by fin_cases a <;> decide) _

theorem final_out (c : Dev nD) : finalA m ρ c (2 : Fin 3) = outAt m ρ c := by
  refine (Memref.read_access_unit_zero (Elt F) main_v1 (funext fun a => by fin_cases a <;> decide) (fun a => by fin_cases a <;> decide)
    (finalA m ρ c (2 : Fin 3))).symm.trans (show (win0_2.blk (0 : Fin 1)).view.read (Elt F) (finalA m ρ c (2 : Fin 3)) = outAt m ρ c from ?_)
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

end Result

/-! ## The whole product -/

section Whole
open Cert.ReferenceIdeal Cert.ReferenceIdeal.Gen

/-- The reference's result from its arguments. -/
abbrev whole (x : FVec Ideal S8192x8192 .f32) (w : FVec Ideal S8192x4096 .f32) : FVec Ideal S8192x4096 .f32 :=
  maximumf (Host.dotGeneral dot_S8192x8192_S8192x4096_S8192x4096_1_0_0_1_n_n none x w)
    (broadcastInDim S8192x4096 ![] bcast_S_S8192x4096 (constant S_ .f32 0x00000000#32))

/-- The `k`-th of the positions that device `j` multiplies. -/
def pos (j : Fin 16) (k : Fin 512) : Fin 8192 := ⟨512 * j.val + k.val, by omega⟩

/-- A sum over all positions, device by device. -/
theorem sum_by_device (f : Fin 8192 → EReal) : ∑ i, f i = ∑ j : Fin 16, ∑ k : Fin 512, f (pos j k) := by
  rw [← Finset.sum_product', Finset.univ_product_univ]
  refine (Equiv.sum_comp (finProdFinEquiv (m := 16) (n := 512)) f).symm.trans (Finset.sum_congr rfl fun y _ => congrArg f (Fin.ext ?_))
  show y.2.val + 512 * y.1.val = 512 * y.1.val + y.2.val
  omega

theorem whole_apply (x : FVec Ideal S8192x8192 .f32) (w : FVec Ideal S8192x4096 .f32) (r : Fin 8192) (n : Fin 4096) :
    whole x w (ValueIdx.ix2 r n)
      = max (∑ j : Fin 16, ∑ k : Fin 512, (x (ValueIdx.ix2 r (pos j k)) : EReal) * (w (ValueIdx.ix2 (pos j k) n) : EReal)) (0 : EReal) := by
  refine congrArg₂ (max : EReal → EReal → EReal) ?_ Ideal.ofBits_zero_f32
  refine ((Ideal.dotGeneral_apply _ none _ x w _).trans (Ideal.matmul_apply _ none x w (fun _ => (0 : EReal)) _ |>.trans (zero_add _)).symm).trans ?_
  refine (Ideal.matmul_plain_apply (M := 8192) (K := 8192) (N := 4096) none x w (fun _ => (0 : EReal)) r n).trans ?_
  rw [zero_add]
  exact sum_by_device _

end Whole

/-! ## The claim -/

section Bridge
open Cert.KernelIdeal Cert.KernelIdeal.Ring

variable (m : (ℓ : Loc nD τ sig) → Buf (Elt Ideal) ℓ) (ρ : Dev nD → PrngReg)
variable (X : FVec Ideal ⟨2, ![8192, 8192]⟩ .f32) (W : FVec Ideal ⟨2, ![8192, 4096]⟩ .f32)

theorem tiles_x : Layout.Tiles ⟨2, ![8192, 512]⟩ ⟨2, ![8192, 8192]⟩ 1 16 := by decide
theorem tiles_w : Layout.Tiles ⟨2, ![512, 4096]⟩ ⟨2, ![8192, 4096]⟩ 0 16 := by decide

/-- One device's part of an entry, from the whole factors. -/
theorem part_whole (hx : ∀ c : Dev nD, m ((c : Thread nD τ).loc main_arg0) = Layout.block ⟨2, ![8192, 512]⟩ ⟨2, ![8192, 8192]⟩ 1 16 c X tiles_x)
    (hw : ∀ c : Dev nD, m ((c : Thread nD τ).loc main_arg1) = Layout.block ⟨2, ![512, 4096]⟩ ⟨2, ![8192, 4096]⟩ 0 16 c W tiles_w)
    (g : Fin 8) (r q : Fin 512) (b j : Fin 16) :
    part m ρ g r q b j = ∑ k : Fin 512, (X (ValueIdx.ix2 (rowIn b.val r.val b.isLt r.isLt) (pos j k)) : EReal)
      * (W (ValueIdx.ix2 (pos j k) (colIn g q)) : EReal) := by
  unfold part xOf wOf
  rw [x_whole, w_whole, hx j, hw j]
  refine Finset.sum_congr rfl fun k _ => congrArg₂ (fun a b : EReal => a * b) (congrArg X (funext fun a => ?_)) (congrArg W (funext fun a => ?_))
  · match a with
    | ⟨0, _⟩ => rfl
    | ⟨1, _⟩ => exact Fin.ext (show j.val * 512 + k.val = 512 * j.val + k.val by omega)
  · match a with
    | ⟨0, _⟩ => exact Fin.ext (show j.val * 512 + k.val = 512 * j.val + k.val by omega)
    | ⟨1, _⟩ => rfl

/-- Device `c`'s result is its block of the whole one. -/
theorem out_block (hx : ∀ c : Dev nD, m ((c : Thread nD τ).loc main_arg0) = Layout.block ⟨2, ![8192, 512]⟩ ⟨2, ![8192, 8192]⟩ 1 16 c X tiles_x)
    (hw : ∀ c : Dev nD, m ((c : Thread nD τ).loc main_arg1) = Layout.block ⟨2, ![512, 4096]⟩ ⟨2, ![8192, 4096]⟩ 0 16 c W tiles_w) (c : Dev nD) :
    outAt m ρ c = Layout.block ⟨2, ![512, 4096]⟩ ⟨2, ![8192, 4096]⟩ 0 16 c (whole X W) tiles_w := by
  funext i
  rw [Layout.block_apply]
  have hi : tiles_w.idx c i = ValueIdx.ix2 (rowIn c.val (i 0).val c.isLt (i 0).isLt) (colIn (ringAt (i 1)) (colAt (i 1))) := by
    have h := Nat.div_add_mod (i 1).val 512
    funext a
    match a with
    | ⟨0, _⟩ => exact Fin.ext (show c.val * 512 + (i 0).val = 512 * c.val + (i 0).val by omega)
    | ⟨1, _⟩ => exact Fin.ext (show (i 1).val = 512 * ((i 1).val / 512) + (i 1).val % 512 by omega)
  rw [hi, whole_apply]
  unfold outAt relu
  refine congrArg₂ (max : EReal → EReal → EReal) ?_ Ideal.ofBits_zero_f32
  exact (acc_last m ρ (ringAt (i 1)) c (i 0) (colAt (i 1))).trans (Finset.sum_congr rfl fun j _ => part_whole m ρ X W hx hw _ _ _ _ j)

end Bridge

theorem algebraic : Cert.algebraic_KernelIdeal_ReferenceIdeal := fun m ρ m' ρ' _ hagree =>
  ⟨whole (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono
      (fun r h c => ⟨((h.1 c (2 : Fin 3)).trans (final_out m ρ c)).trans
          (out_block m ρ _ _ (fun c => (hagree c).1) (fun c => (hagree c).2) c),
        kept_x m ρ r h.1 c, kept_w m ρ r h.1 c⟩)
      (Cert.KernelIdeal.Ring.run_main (F := Ideal) m ρ),
    (θ_run Cert.ReferenceIdeal.defs _ _).mono (fun _ h => h 0) (Cert.ReferenceIdeal.Value.run (F := Ideal) m' ρ')⟩

end Cert.Proof

end
-- ==== Proof.lean ====
/- The claims together: the frames of the three programs, that nothing was rewritten, and the equality with the reference. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_reference, trivial, algebraic⟩

end Cert.Proof

end
